-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x4096 : Shape := ⟨3, ![3, 2048, 4096]⟩
abbrev S3x2048x14336 : Shape := ⟨3, ![3, 2048, 14336]⟩
abbrev S8x3670016 : Shape := ⟨2, ![8, 3670016]⟩
abbrev S8x28672 : Shape := ⟨2, ![8, 28672]⟩
abbrev S1 : Shape := ⟨1, ![1]⟩
abbrev S6144x4096 : Shape := ⟨2, ![6144, 4096]⟩
abbrev S6144x14336 : Shape := ⟨2, ![6144, 14336]⟩
abbrev S14336x2048 : Shape := ⟨2, ![14336, 2048]⟩
abbrev S14336x16 : Shape := ⟨2, ![14336, 16]⟩
abbrev S14336x4096 : Shape := ⟨2, ![14336, 4096]⟩
abbrev S256x2048 : Shape := ⟨2, ![256, 2048]⟩
abbrev S256x16 : Shape := ⟨2, ![256, 16]⟩
abbrev S256x4096 : Shape := ⟨2, ![256, 4096]⟩
abbrev S256x128 : Shape := ⟨2, ![256, 128]⟩
abbrev S256x1 : Shape := ⟨2, ![256, 1]⟩
abbrev S64x128 : Shape := ⟨2, ![64, 128]⟩
abbrev S64x128x1 : Shape := ⟨3, ![64, 128, 1]⟩
abbrev S1024x4096 : Shape := ⟨2, ![1024, 4096]⟩
abbrev S1024x1024 : Shape := ⟨2, ![1024, 1024]⟩
abbrev S1024x2048 : Shape := ⟨2, ![1024, 2048]⟩
abbrev S2048x2048 : Shape := ⟨2, ![2048, 2048]⟩
abbrev S4x14336x4 : Shape := ⟨3, ![4, 14336, 4]⟩
abbrev S2048x1024 : Shape := ⟨2, ![2048, 1024]⟩
abbrev S1024x512 : Shape := ⟨2, ![1024, 512]⟩
abbrev S1x1024x4 : Shape := ⟨3, ![1, 1024, 4]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S256x128x1 : Shape := ⟨3, ![256, 128, 1]⟩
abbrev S1024x4 : Shape := ⟨2, ![1024, 4]⟩
abbrev S2x4x3670016 : Shape := ⟨3, ![2, 4, 3670016]⟩
abbrev S4x2x3670016 : Shape := ⟨3, ![4, 2, 3670016]⟩
abbrev S14336x4x4 : Shape := ⟨3, ![14336, 4, 4]⟩
abbrev S2x4x28672 : Shape := ⟨3, ![2, 4, 28672]⟩
abbrev S4x2x28672 : Shape := ⟨3, ![4, 2, 28672]⟩

abbrev nBuf : Space → Nat
  | .hbm => 23
  | .vmem => 28
  | .smem => 1
  | _ => 0

abbrev bufTy : (tb : Table) → Fin (tcTables nBuf tb) → BufTy
  | .hbm, ⟨0, _⟩ => ⟨S3x2048x4096, .bf16⟩
  | .hbm, ⟨1, _⟩ => ⟨S3x2048x14336, .bf16⟩
  | .hbm, ⟨2, _⟩ => ⟨S8x3670016, .i8⟩
  | .hbm, ⟨3, _⟩ => ⟨S8x28672, .f32⟩
  | .hbm, ⟨4, _⟩ => ⟨S1, .f32⟩
  | .hbm, ⟨5, _⟩ => ⟨S6144x4096, .bf16⟩
  | .hbm, ⟨6, _⟩ => ⟨S6144x14336, .bf16⟩
  | .hbm, ⟨7, _⟩ => ⟨S14336x2048, .i8⟩
  | .hbm, ⟨8, _⟩ => ⟨S14336x16, .f32⟩
  | .hbm, ⟨9, _⟩ => ⟨S14336x4096, .bf16⟩
  | .hbm, ⟨10, _⟩ => ⟨S6144x14336, .bf16⟩
  | .hbm, ⟨11, _⟩ => ⟨S3x2048x14336, .bf16⟩
  | .hbm, ⟨12, _⟩ => ⟨S6144x4096, .bf16⟩
  | .hbm, ⟨13, _⟩ => ⟨S3x2048x4096, .bf16⟩
  | .hbm, ⟨14, _⟩ => ⟨S14336x2048, .i8⟩
  | .hbm, ⟨15, _⟩ => ⟨S4x14336x4, .f32⟩
  | .hbm, ⟨16, _⟩ => ⟨S2x4x3670016, .i8⟩
  | .hbm, ⟨17, _⟩ => ⟨S4x2x3670016, .i8⟩
  | .hbm, ⟨18, _⟩ => ⟨S8x3670016, .i8⟩
  | .hbm, ⟨19, _⟩ => ⟨S14336x4x4, .f32⟩
  | .hbm, ⟨20, _⟩ => ⟨S2x4x28672, .f32⟩
  | .hbm, ⟨21, _⟩ => ⟨S4x2x28672, .f32⟩
  | .hbm, ⟨22, _⟩ => ⟨S8x28672, .f32⟩
  | .local _ .vmem, ⟨0, _⟩ => ⟨S256x2048, .i8⟩
  | .local _ .vmem, ⟨1, _⟩ => ⟨S256x2048, .i8⟩
  | .local _ .vmem, ⟨2, _⟩ => ⟨S256x16, .f32⟩
  | .local _ .vmem, ⟨3, _⟩ => ⟨S256x16, .f32⟩
  | .local _ .vmem, ⟨4, _⟩ => ⟨S256x4096, .bf16⟩
  | .local _ .vmem, ⟨5, _⟩ => ⟨S256x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S2048x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .f32⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S2048x1024, .bf16⟩
  | .local _ .vmem, ⟨23, _⟩ => ⟨S1024x512, .i8⟩
  | .local _ .vmem, ⟨24, _⟩ => ⟨S1024x512, .i8⟩
  | .local _ .vmem, ⟨25, _⟩ => ⟨S1x1024x4, .f32⟩
  | .local _ .vmem, ⟨26, _⟩ => ⟨S1x1024x4, .f32⟩
  | .local _ .vmem, ⟨27, _⟩ => ⟨S1024x1024, .f32⟩
  | .local _ .smem, ⟨0, _⟩ => ⟨S1, .f32⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc3_scratch0 : Ref sig .tc := ⟨.vmem, 27, rfl⟩
abbrev cc3_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![6, 2, 7], ![false, false, false]⟩

def k2_cond2 (i : grid2.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![14, 4, 3], ![false, false, false]⟩

def k3_cond2 (i : grid3.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc3_transform_0 (i : grid3.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1024x512 .i8 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1024x4 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]
-- ==== ReferenceIdeal.lean ====
abbrev S3x2048x4096 : Shape := ⟨3, ![3, 2048, 4096]⟩
abbrev S3x2048x14336 : Shape := ⟨3, ![3, 2048, 14336]⟩
abbrev S8x3670016 : Shape := ⟨2, ![8, 3670016]⟩
abbrev S8x28672 : Shape := ⟨2, ![8, 28672]⟩
abbrev S1 : Shape := ⟨1, ![1]⟩
abbrev S_ : Shape := ⟨0, ![]⟩
abbrev S8x28672x128 : Shape := ⟨3, ![8, 28672, 128]⟩
abbrev S8x28672x1 : Shape := ⟨3, ![8, 28672, 1]⟩
abbrev S14336x2048 : Shape := ⟨2, ![14336, 2048]⟩
abbrev S3x2048x2048 : Shape := ⟨3, ![3, 2048, 2048]⟩
abbrev S3x2048x2048x1 : Shape := ⟨4, ![3, 2048, 2048, 1]⟩
abbrev S3x2048x2048x2 : Shape := ⟨4, ![3, 2048, 2048, 2]⟩
abbrev S14336x4096 : Shape := ⟨2, ![14336, 4096]⟩
abbrev S229376x256 : Shape := ⟨2, ![229376, 256]⟩
abbrev S229376 : Shape := ⟨1, ![229376]⟩
abbrev S229376x1 : Shape := ⟨2, ![229376, 1]⟩
abbrev S29360128x2 : Shape := ⟨2, ![29360128, 2]⟩
abbrev S29360128x1 : Shape := ⟨2, ![29360128, 1]⟩
abbrev S29360128 : Shape := ⟨1, ![29360128]⟩
abbrev S2x4x3670016 : Shape := ⟨3, ![2, 4, 3670016]⟩
abbrev S4x2x3670016 : Shape := ⟨3, ![4, 2, 3670016]⟩
abbrev S2x4x28672 : Shape := ⟨3, ![2, 4, 28672]⟩
abbrev S4x2x28672 : Shape := ⟨3, ![4, 2, 28672]⟩

abbrev nBuf : Space → Nat
  | .hbm => 100
  | .vmem => 0
  | .smem => 0
  | _ => 0

abbrev bufTy : (tb : Table) → Fin (tcTables nBuf tb) → BufTy
  | .hbm, ⟨0, _⟩ => ⟨S3x2048x4096, .bf16⟩
  | .hbm, ⟨1, _⟩ => ⟨S3x2048x14336, .bf16⟩
  | .hbm, ⟨2, _⟩ => ⟨S8x3670016, .i8⟩
  | .hbm, ⟨3, _⟩ => ⟨S8x28672, .f32⟩
  | .hbm, ⟨4, _⟩ => ⟨S1, .f32⟩
  | .hbm, ⟨5, _⟩ => ⟨S8x3670016, .i32⟩
  | .hbm, ⟨6, _⟩ => ⟨S_, .i32⟩
  | .hbm, ⟨7, _⟩ => ⟨S8x3670016, .i32⟩
  | .hbm, ⟨8, _⟩ => ⟨S8x3670016, .i32⟩
  | .hbm, ⟨9, _⟩ => ⟨S_, .i32⟩
  | .hbm, ⟨10, _⟩ => ⟨S8x3670016, .i32⟩
  | .hbm, ⟨11, _⟩ => ⟨S8x3670016, .i32⟩
  | .hbm, ⟨12, _⟩ => ⟨S_, .i32⟩
  | .hbm, ⟨13, _⟩ => ⟨S8x3670016, .i32⟩
  | .hbm, ⟨14, _⟩ => ⟨S8x3670016, .i32⟩
  | .hbm, ⟨15, _⟩ => ⟨S_, .i32⟩
  | .hbm, ⟨16, _⟩ => ⟨S8x3670016, .i32⟩
  | .hbm, ⟨17, _⟩ => ⟨S8x3670016, .i32⟩
  | .hbm, ⟨18, _⟩ => ⟨S8x3670016, .f32⟩
  | .hbm, ⟨19, _⟩ => ⟨S8x28672x128, .f32⟩
  | .hbm, ⟨20, _⟩ => ⟨S8x28672x1, .f32⟩
  | .hbm, ⟨21, _⟩ => ⟨S8x28672x128, .f32⟩
  | .hbm, ⟨22, _⟩ => ⟨S8x28672x128, .f32⟩
  | .hbm, ⟨23, _⟩ => ⟨S8x28672x128, .bf16⟩
  | .hbm, ⟨24, _⟩ => ⟨S14336x2048, .bf16⟩
  | .hbm, ⟨25, _⟩ => ⟨S_, .i32⟩
  | .hbm, ⟨26, _⟩ => ⟨S8x3670016, .i32⟩
  | .hbm, ⟨27, _⟩ => ⟨S8x3670016, .i32⟩
  | .hbm, ⟨28, _⟩ => ⟨S_, .i32⟩
  | .hbm, ⟨29, _⟩ => ⟨S8x3670016, .i32⟩
  | .hbm, ⟨30, _⟩ => ⟨S8x3670016, .i32⟩
  | .hbm, ⟨31, _⟩ => ⟨S8x3670016, .f32⟩
  | .hbm, ⟨32, _⟩ => ⟨S8x28672x128, .f32⟩
  | .hbm, ⟨33, _⟩ => ⟨S8x28672x1, .f32⟩
  | .hbm, ⟨34, _⟩ => ⟨S8x28672x128, .f32⟩
  | .hbm, ⟨35, _⟩ => ⟨S8x28672x128, .f32⟩
  | .hbm, ⟨36, _⟩ => ⟨S8x28672x128, .bf16⟩
  | .hbm, ⟨37, _⟩ => ⟨S14336x2048, .bf16⟩
  | .hbm, ⟨38, _⟩ => ⟨S3x2048x2048, .bf16⟩
  | .hbm, ⟨39, _⟩ => ⟨S3x2048x14336, .f32⟩
  | .hbm, ⟨40, _⟩ => ⟨S3x2048x2048, .bf16⟩
  | .hbm, ⟨41, _⟩ => ⟨S3x2048x14336, .f32⟩
  | .hbm, ⟨42, _⟩ => ⟨S3x2048x14336, .f32⟩
  | .hbm, ⟨43, _⟩ => ⟨S3x2048x14336, .bf16⟩
  | .hbm, ⟨44, _⟩ => ⟨S3x2048x2048, .f32⟩
  | .hbm, ⟨45, _⟩ => ⟨S3x2048x2048, .f32⟩
  | .hbm, ⟨46, _⟩ => ⟨S3x2048x2048x1, .f32⟩
  | .hbm, ⟨47, _⟩ => ⟨S3x2048x2048x1, .f32⟩
  | .hbm, ⟨48, _⟩ => ⟨S3x2048x2048x2, .f32⟩
  | .hbm, ⟨49, _⟩ => ⟨S3x2048x4096, .f32⟩
  | .hbm, ⟨50, _⟩ => ⟨S3x2048x4096, .bf16⟩
  | .hbm, ⟨51, _⟩ => ⟨S14336x4096, .f32⟩
  | .hbm, ⟨52, _⟩ => ⟨S_, .f32⟩
  | .hbm, ⟨53, _⟩ => ⟨S14336x4096, .f32⟩
  | .hbm, ⟨54, _⟩ => ⟨S14336x4096, .f32⟩
  | .hbm, ⟨55, _⟩ => ⟨S229376x256, .f32⟩
  | .hbm, ⟨56, _⟩ => ⟨S229376x256, .f32⟩
  | .hbm, ⟨57, _⟩ => ⟨S_, .f32⟩
  | .hbm, ⟨58, _⟩ => ⟨S229376, .f32⟩
  | .hbm, ⟨59, _⟩ => ⟨S_, .f32⟩
  | .hbm, ⟨60, _⟩ => ⟨S229376, .f32⟩
  | .hbm, ⟨61, _⟩ => ⟨S229376, .i1⟩
  | .hbm, ⟨62, _⟩ => ⟨S_, .f32⟩
  | .hbm, ⟨63, _⟩ => ⟨S229376, .f32⟩
  | .hbm, ⟨64, _⟩ => ⟨S229376, .f32⟩
  | .hbm, ⟨65, _⟩ => ⟨S_, .f32⟩
  | .hbm, ⟨66, _⟩ => ⟨S229376, .f32⟩
  | .hbm, ⟨67, _⟩ => ⟨S229376, .f32⟩
  | .hbm, ⟨68, _⟩ => ⟨S229376x1, .f32⟩
  | .hbm, ⟨69, _⟩ => ⟨S229376x256, .f32⟩
  | .hbm, ⟨70, _⟩ => ⟨S229376x256, .f32⟩
  | .hbm, ⟨71, _⟩ => ⟨S229376x256, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S229376x256, .f32⟩
  | .hbm, ⟨76, _⟩ => ⟨S229376x256, .f32⟩
  | .hbm, ⟨77, _⟩ => ⟨S_, .f32⟩
  | .hbm, ⟨78, _⟩ => ⟨S229376x256, .f32⟩
  | .hbm, ⟨79, _⟩ => ⟨S229376x256, .f32⟩
  | .hbm, ⟨80, _⟩ => ⟨S229376x256, .i32⟩
  | .hbm, ⟨81, _⟩ => ⟨S_, .i32⟩
  | .hbm, ⟨82, _⟩ => ⟨S229376x256, .i32⟩
  | .hbm, ⟨83, _⟩ => ⟨S229376x256, .i32⟩
  | .hbm, ⟨84, _⟩ => ⟨S29360128x2, .i32⟩
  | .hbm, ⟨85, _⟩ => ⟨S29360128x1, .i32⟩
  | .hbm, ⟨86, _⟩ => ⟨S29360128, .i32⟩
  | .hbm, ⟨87, _⟩ => ⟨S29360128x1, .i32⟩
  | .hbm, ⟨88, _⟩ => ⟨S29360128, .i32⟩
  | .hbm, ⟨89, _⟩ => ⟨S_, .i32⟩
  | .hbm, ⟨90, _⟩ => ⟨S29360128, .i32⟩
  | .hbm, ⟨91, _⟩ => ⟨S29360128, .i32⟩
  | .hbm, ⟨92, _⟩ => ⟨S29360128, .i32⟩
  | .hbm, ⟨93, _⟩ => ⟨S29360128, .i8⟩
  | .hbm, ⟨94, _⟩ => ⟨S2x4x3670016, .i8⟩
  | .hbm, ⟨95, _⟩ => ⟨S4x2x3670016, .i8⟩
  | .hbm, ⟨96, _⟩ => ⟨S8x3670016, .i8⟩
  | .hbm, ⟨97, _⟩ => ⟨S2x4x28672, .f32⟩
  | .hbm, ⟨98, _⟩ => ⟨S4x2x28672, .f32⟩
  | .hbm, ⟨99, _⟩ => ⟨S8x28672, .f32⟩
  | _, _ => ⟨S3x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_call0_v0 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Proof.Frame.Region0.lean ====
/- The first region (dequantising the weights), at the buffer contents `V` it is entered from: what each window reads, what the body leaves in each output, the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dequant` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2048 := Rect.unit (s := S256x2048) ![0, 0] S256x128.size inb_S256x2048_S256x128_0_0
abbrev r0_1 : Rect S256x16 := Rect.unit (s := S256x16) ![0, 0] S256x1.size inb_S256x16_S256x1_0_0
abbrev r0_2 : Rect S256x4096 := Rect.unit (s := S256x4096) ![0, 0] S256x128.size inb_S256x4096_S256x128_0_0
abbrev r0_3 : Rect S256x4096 := Rect.unit (s := S256x4096) ![0, 128] S256x128.size inb_S256x4096_S256x128_0_128
abbrev r0_4 : Rect S256x2048 := Rect.unit (s := S256x2048) ![0, 128] S256x128.size inb_S256x2048_S256x128_0_128
abbrev r0_5 : Rect S256x16 := Rect.unit (s := S256x16) ![0, 1] S256x1.size inb_S256x16_S256x1_0_1
abbrev r0_6 : Rect S256x4096 := Rect.unit (s := S256x4096) ![0, 256] S256x128.size inb_S256x4096_S256x128_0_256
abbrev r0_7 : Rect S256x4096 := Rect.unit (s := S256x4096) ![0, 384] S256x128.size inb_S256x4096_S256x128_0_384
abbrev r0_8 : Rect S256x2048 := Rect.unit (s := S256x2048) ![0, 256] S256x128.size inb_S256x2048_S256x128_0_256
abbrev r0_9 : Rect S256x16 := Rect.unit (s := S256x16) ![0, 2] S256x1.size inb_S256x16_S256x1_0_2
abbrev r0_10 : Rect S256x4096 := Rect.unit (s := S256x4096) ![0, 512] S256x128.size inb_S256x4096_S256x128_0_512
abbrev r0_11 : Rect S256x4096 := Rect.unit (s := S256x4096) ![0, 640] S256x128.size inb_S256x4096_S256x128_0_640
abbrev r0_12 : Rect S256x2048 := Rect.unit (s := S256x2048) ![0, 384] S256x128.size inb_S256x2048_S256x128_0_384
abbrev r0_13 : Rect S256x16 := Rect.unit (s := S256x16) ![0, 3] S256x1.size inb_S256x16_S256x1_0_3
abbrev r0_14 : Rect S256x4096 := Rect.unit (s := S256x4096) ![0, 768] S256x128.size inb_S256x4096_S256x128_0_768
abbrev r0_15 : Rect S256x4096 := Rect.unit (s := S256x4096) ![0, 896] S256x128.size inb_S256x4096_S256x128_0_896
abbrev r0_16 : Rect S256x2048 := Rect.unit (s := S256x2048) ![0, 512] S256x128.size inb_S256x2048_S256x128_0_512
abbrev r0_17 : Rect S256x16 := Rect.unit (s := S256x16) ![0, 4] S256x1.size inb_S256x16_S256x1_0_4
abbrev r0_18 : Rect S256x4096 := Rect.unit (s := S256x4096) ![0, 1024] S256x128.size inb_S256x4096_S256x128_0_1024
abbrev r0_19 : Rect S256x4096 := Rect.unit (s := S256x4096) ![0, 1152] S256x128.size inb_S256x4096_S256x128_0_1152
abbrev r0_20 : Rect S256x2048 := Rect.unit (s := S256x2048) ![0, 640] S256x128.size inb_S256x2048_S256x128_0_640
abbrev r0_21 : Rect S256x16 := Rect.unit (s := S256x16) ![0, 5] S256x1.size inb_S256x16_S256x1_0_5
abbrev r0_22 : Rect S256x4096 := Rect.unit (s := S256x4096) ![0, 1280] S256x128.size inb_S256x4096_S256x128_0_1280
abbrev r0_23 : Rect S256x4096 := Rect.unit (s := S256x4096) ![0, 1408] S256x128.size inb_S256x4096_S256x128_0_1408
abbrev r0_24 : Rect S256x2048 := Rect.unit (s := S256x2048) ![0, 768] S256x128.size inb_S256x2048_S256x128_0_768
abbrev r0_25 : Rect S256x16 := Rect.unit (s := S256x16) ![0, 6] S256x1.size inb_S256x16_S256x1_0_6
abbrev r0_26 : Rect S256x4096 := Rect.unit (s := S256x4096) ![0, 1536] S256x128.size inb_S256x4096_S256x128_0_1536
abbrev r0_27 : Rect S256x4096 := Rect.unit (s := S256x4096) ![0, 1664] S256x128.size inb_S256x4096_S256x128_0_1664
abbrev r0_28 : Rect S256x2048 := Rect.unit (s := S256x2048) ![0, 896] S256x128.size inb_S256x2048_S256x128_0_896
abbrev r0_29 : Rect S256x16 := Rect.unit (s := S256x16) ![0, 7] S256x1.size inb_S256x16_S256x1_0_7
abbrev r0_30 : Rect S256x4096 := Rect.unit (s := S256x4096) ![0, 1792] S256x128.size inb_S256x4096_S256x128_0_1792
abbrev r0_31 : Rect S256x4096 := Rect.unit (s := S256x4096) ![0, 1920] S256x128.size inb_S256x4096_S256x128_0_1920
abbrev r0_32 : Rect S256x2048 := Rect.unit (s := S256x2048) ![0, 1024] S256x128.size inb_S256x2048_S256x128_0_1024
abbrev r0_33 : Rect S256x16 := Rect.unit (s := S256x16) ![0, 8] S256x1.size inb_S256x16_S256x1_0_8
abbrev r0_34 : Rect S256x4096 := Rect.unit (s := S256x4096) ![0, 2048] S256x128.size inb_S256x4096_S256x128_0_2048
abbrev r0_35 : Rect S256x4096 := Rect.unit (s := S256x4096) ![0, 2176] S256x128.size inb_S256x4096_S256x128_0_2176
abbrev r0_36 : Rect S256x2048 := Rect.unit (s := S256x2048) ![0, 1152] S256x128.size inb_S256x2048_S256x128_0_1152
abbrev r0_37 : Rect S256x16 := Rect.unit (s := S256x16) ![0, 9] S256x1.size inb_S256x16_S256x1_0_9
abbrev r0_38 : Rect S256x4096 := Rect.unit (s := S256x4096) ![0, 2304] S256x128.size inb_S256x4096_S256x128_0_2304
abbrev r0_39 : Rect S256x4096 := Rect.unit (s := S256x4096) ![0, 2432] S256x128.size inb_S256x4096_S256x128_0_2432
abbrev r0_40 : Rect S256x2048 := Rect.unit (s := S256x2048) ![0, 1280] S256x128.size inb_S256x2048_S256x128_0_1280
abbrev r0_41 : Rect S256x16 := Rect.unit (s := S256x16) ![0, 10] S256x1.size inb_S256x16_S256x1_0_10
abbrev r0_42 : Rect S256x4096 := Rect.unit (s := S256x4096) ![0, 2560] S256x128.size inb_S256x4096_S256x128_0_2560
abbrev r0_43 : Rect S256x4096 := Rect.unit (s := S256x4096) ![0, 2688] S256x128.size inb_S256x4096_S256x128_0_2688
abbrev r0_44 : Rect S256x2048 := Rect.unit (s := S256x2048) ![0, 1408] S256x128.size inb_S256x2048_S256x128_0_1408
abbrev r0_45 : Rect S256x16 := Rect.unit (s := S256x16) ![0, 11] S256x1.size inb_S256x16_S256x1_0_11
abbrev r0_46 : Rect S256x4096 := Rect.unit (s := S256x4096) ![0, 2816] S256x128.size inb_S256x4096_S256x128_0_2816
abbrev r0_47 : Rect S256x4096 := Rect.unit (s := S256x4096) ![0, 2944] S256x128.size inb_S256x4096_S256x128_0_2944
abbrev r0_48 : Rect S256x2048 := Rect.unit (s := S256x2048) ![0, 1536] S256x128.size inb_S256x2048_S256x128_0_1536
abbrev r0_49 : Rect S256x16 := Rect.unit (s := S256x16) ![0, 12] S256x1.size inb_S256x16_S256x1_0_12
abbrev r0_50 : Rect S256x4096 := Rect.unit (s := S256x4096) ![0, 3072] S256x128.size inb_S256x4096_S256x128_0_3072
abbrev r0_51 : Rect S256x4096 := Rect.unit (s := S256x4096) ![0, 3200] S256x128.size inb_S256x4096_S256x128_0_3200
abbrev r0_52 : Rect S256x2048 := Rect.unit (s := S256x2048) ![0, 1664] S256x128.size inb_S256x2048_S256x128_0_1664
abbrev r0_53 : Rect S256x16 := Rect.unit (s := S256x16) ![0, 13] S256x1.size inb_S256x16_S256x1_0_13
abbrev r0_54 : Rect S256x4096 := Rect.unit (s := S256x4096) ![0, 3328] S256x128.size inb_S256x4096_S256x128_0_3328
abbrev r0_55 : Rect S256x4096 := Rect.unit (s := S256x4096) ![0, 3456] S256x128.size inb_S256x4096_S256x128_0_3456
abbrev r0_56 : Rect S256x2048 := Rect.unit (s := S256x2048) ![0, 1792] S256x128.size inb_S256x2048_S256x128_0_1792
abbrev r0_57 : Rect S256x16 := Rect.unit (s := S256x16) ![0, 14] S256x1.size inb_S256x16_S256x1_0_14
abbrev r0_58 : Rect S256x4096 := Rect.unit (s := S256x4096) ![0, 3584] S256x128.size inb_S256x4096_S256x128_0_3584
abbrev r0_59 : Rect S256x4096 := Rect.unit (s := S256x4096) ![0, 3712] S256x128.size inb_S256x4096_S256x128_0_3712
abbrev r0_60 : Rect S256x2048 := Rect.unit (s := S256x2048) ![0, 1920] S256x128.size inb_S256x2048_S256x128_0_1920
abbrev r0_61 : Rect S256x16 := Rect.unit (s := S256x16) ![0, 15] S256x1.size inb_S256x16_S256x1_0_15
abbrev r0_62 : Rect S256x4096 := Rect.unit (s := S256x4096) ![0, 3840] S256x128.size inb_S256x4096_S256x128_0_3840
abbrev r0_63 : Rect S256x4096 := Rect.unit (s := S256x4096) ![0, 3968] S256x128.size inb_S256x4096_S256x128_0_3968

/-! ## What the body leaves in each output window's buffer -/

/-! ### Values of the body that the stores' payloads, spelt out, would write more than once

    Each is a vector the body binds (often a part call's result), stated over the input windows' blocks and
    numbered on from the skeleton's payload functions (`k0_pay108` …, after `k0_pay107`), so that
    `out0_W` and the values after it name it instead of spelling it out; the comment after each is the printed function's
    name for the value (a count appended where that name is bound again). -/

def k0_pay108 (x0 : Vec F S256x2048 .i8) (x1 : Vec F S256x16 .f32) : FVec F S256x1 .f32 :=
  k0_pay8 (View.ld x1 r0_5) -- `v77`
def k0_pay109 (x0 : Vec F S256x2048 .i8) (x1 : Vec F S256x16 .f32) : FVec F S256x1 .f32 :=
  k0_pay16 (View.ld x1 r0_9) -- `v151`
def k0_pay110 (x0 : Vec F S256x2048 .i8) (x1 : Vec F S256x16 .f32) : FVec F S256x1 .f32 :=
  k0_pay23 (View.ld x1 r0_13) -- `v225`
def k0_pay111 (x0 : Vec F S256x2048 .i8) (x1 : Vec F S256x16 .f32) : FVec F S256x1 .f32 :=
  k0_pay34 (View.ld x1 r0_21) -- `v373`
def k0_pay112 (x0 : Vec F S256x2048 .i8) (x1 : Vec F S256x16 .f32) : FVec F S256x1 .f32 :=
  k0_pay42 (View.ld x1 r0_25) -- `v447`
def k0_pay113 (x0 : Vec F S256x2048 .i8) (x1 : Vec F S256x16 .f32) : FVec F S256x1 .f32 :=
  k0_pay49 (View.ld x1 r0_29) -- `v521`
def k0_pay114 (x0 : Vec F S256x2048 .i8) (x1 : Vec F S256x16 .f32) : IVec S256x128 8 :=
  k0_pay60 (View.ld x0 r0_36) -- `v667`
def k0_pay115 (x0 : Vec F S256x2048 .i8) (x1 : Vec F S256x16 .f32) : FVec F S256x1 .f32 :=
  k0_pay67 (View.ld x1 r0_41) -- `v743`
def k0_pay116 (x0 : Vec F S256x2048 .i8) (x1 : Vec F S256x16 .f32) : FVec F S256x1 .f32 :=
  k0_pay76 (View.ld x1 r0_45) -- `v817`
def k0_pay117 (x0 : Vec F S256x2048 .i8) (x1 : Vec F S256x16 .f32) : FVec F S256x1 .f32 :=
  k0_pay83 (View.ld x1 r0_49) -- `v891`
def k0_pay118 (x0 : Vec F S256x2048 .i8) (x1 : Vec F S256x16 .f32) : FVec F S256x1 .f32 :=
  k0_pay95 (View.ld x1 r0_57) -- `v1039`
def k0_pay119 (x0 : Vec F S256x2048 .i8) (x1 : Vec F S256x16 .f32) : FVec F S256x1 .f32 :=
  k0_pay103 (View.ld x1 r0_61) -- `v1113`

/-- Window 2's staging buffer after the body, from the input windows' blocks: its 32 stores as pieces, LAST
    FIRST (Lib/Pipeline/FrameBody.lean `View.canon`; the payloads are the skeleton's and the values stated above). -/
def out0_2 (x0 : Vec F S256x2048 .i8) (x1 : Vec F S256x16 .f32) : Vec F S256x4096 .bf16 :=
  View.canon [⟨r0_63, k0_pay1 (k0_pay119 x0 x1) (k0_pay107 (k0_pay102 (View.ld x0 r0_60))) 2155905152#32⟩,
    ⟨r0_62, k0_pay106 (k0_pay119 x0 x1) (k0_pay104 (View.ld x0 r0_60)) k0_pay105⟩,
    ⟨r0_59, k0_pay101 (k0_pay118 x0 x1) (iota .tc S64x128 32 [1] iota_S64x128_d1_w32) (k0_pay100 (k0_pay94 (View.ld x0 r0_56)))⟩,
    ⟨r0_58, k0_pay99 (k0_pay118 x0 x1) (k0_pay96 (View.ld x0 r0_56)) (iota .tc S64x128 32 [1] iota_S64x128_d1_w32) k0_pay97 k0_pay98⟩,
    ⟨r0_55, k0_pay93 (k0_pay89 (View.ld x1 r0_53)) (k0_pay91 (View.ld x0 r0_52)) (iota .tc S64x128 32 [1] iota_S64x128_d1_w32) k0_pay92⟩,
    ⟨r0_54, k0_pay90 (View.ld x0 r0_52) (View.ld x1 r0_53)⟩,
    ⟨r0_51, k0_pay87 (k0_pay82 (View.ld x0 r0_48)) (k0_pay117 x0 x1)⟩,
    ⟨r0_50, k0_pay86 (k0_pay117 x0 x1) (k0_pay84 (View.ld x0 r0_48)) k0_pay85⟩,
    ⟨r0_47, k0_pay81 (k0_pay116 x0 x1) (k0_pay79 (k0_pay75 (View.ld x0 r0_44))) k0_pay80⟩,
    ⟨r0_46, k0_pay78 (k0_pay116 x0 x1) (k0_pay77 (View.ld x0 r0_44))⟩,
    ⟨r0_43, k0_pay74 (k0_pay115 x0 x1) (k0_pay72 (k0_pay66 (View.ld x0 r0_40))) k0_pay73 4#32⟩,
    ⟨r0_42, k0_pay71 (k0_pay115 x0 x1) (k0_pay68 (View.ld x0 r0_40)) (iota .tc S64x128 32 [1] iota_S64x128_d1_w32) k0_pay69 k0_pay70⟩,
    ⟨r0_39, k0_pay65 (k0_pay61 (View.ld x1 r0_37)) (k0_pay63 (k0_pay114 x0 x1)) (iota .tc S64x128 32 [1] iota_S64x128_d1_w32) k0_pay64⟩,
    ⟨r0_38, k0_pay62 (k0_pay114 x0 x1) (View.ld x1 r0_37)⟩,
    ⟨r0_35, k0_pay59 (k0_pay54 (View.ld x0 r0_32)) (k0_pay55 (View.ld x1 r0_33))⟩,
    ⟨r0_34, k0_pay58 (k0_pay56 (View.ld x0 r0_32)) (k0_pay57 (View.ld x1 r0_33))⟩,
    ⟨r0_31, k0_pay53 (k0_pay113 x0 x1) (k0_pay52 (k0_pay48 (View.ld x0 r0_28)))⟩,
    ⟨r0_30, k0_pay51 (k0_pay113 x0 x1) (k0_pay50 (View.ld x0 r0_28)) 134744072#32⟩,
    ⟨r0_27, k0_pay47 (k0_pay112 x0 x1) (k0_pay46 (k0_pay41 (View.ld x0 r0_24))) 252645135#32⟩,
    ⟨r0_26, k0_pay45 (k0_pay112 x0 x1) (k0_pay43 (View.ld x0 r0_24)) (iota .tc S64x128 32 [1] iota_S64x128_d1_w32) k0_pay44⟩,
    ⟨r0_23, k0_pay40 (k0_pay111 x0 x1) (k0_pay37 (k0_pay33 (View.ld x0 r0_20))) (iota .tc S64x128 32 [1] iota_S64x128_d1_w32) k0_pay38 k0_pay39 128#32⟩,
    ⟨r0_22, k0_pay36 (k0_pay111 x0 x1) (k0_pay35 (View.ld x0 r0_20))⟩,
    ⟨r0_19, k0_pay32 (k0_pay29 (View.ld x0 r0_16)) (k0_pay30 (View.ld x1 r0_17))⟩,
    ⟨r0_18, k0_pay31 (View.ld x0 r0_16) (View.ld x1 r0_17)⟩,
    ⟨r0_15, k0_pay28 (k0_pay27 (k0_pay22 (View.ld x0 r0_12)) (k0_pay110 x0 x1))⟩,
    ⟨r0_14, k0_pay26 (k0_pay110 x0 x1) (k0_pay24 (View.ld x0 r0_12)) k0_pay25⟩,
    ⟨r0_11, k0_pay21 (k0_pay109 x0 x1) (k0_pay19 (k0_pay15 (View.ld x0 r0_8))) k0_pay20⟩,
    ⟨r0_10, k0_pay18 (k0_pay109 x0 x1) (iota .tc S64x128 32 [1] iota_S64x128_d1_w32) (k0_pay17 (View.ld x0 r0_8)) 1#32⟩,
    ⟨r0_7, k0_pay14 (k0_pay108 x0 x1) (k0_pay12 (k0_pay7 (View.ld x0 r0_4))) (iota .tc S64x128 32 [1] iota_S64x128_d1_w32) k0_pay13⟩,
    ⟨r0_6, k0_pay11 (k0_pay108 x0 x1) (k0_pay9 (View.ld x0 r0_4)) (iota .tc S64x128 32 [1] iota_S64x128_d1_w32) k0_pay10⟩,
    ⟨r0_3, k0_pay6 (k0_pay3 (View.ld x1 r0_1)) (k0_pay5 (View.ld x0 r0_0)) (iota .tc S64x128 32 [1] iota_S64x128_d1_w32)⟩,
    ⟨r0_2, k0_pay4 (View.ld x0 r0_0) (View.ld x1 r0_1)⟩]

/-- Its stores tile the buffer (checked by evaluation), so they cover it. -/
theorem cover0_2 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (p16 : Vec F S256x128 .bf16) (p17 : Vec F S256x128 .bf16) (p18 : Vec F S256x128 .bf16) (p19 : Vec F S256x128 .bf16) (p20 : Vec F S256x128 .bf16) (p21 : Vec F S256x128 .bf16) (p22 : Vec F S256x128 .bf16) (p23 : Vec F S256x128 .bf16) (p24 : Vec F S256x128 .bf16) (p25 : Vec F S256x128 .bf16) (p26 : Vec F S256x128 .bf16) (p27 : Vec F S256x128 .bf16) (p28 : Vec F S256x128 .bf16) (p29 : Vec F S256x128 .bf16) (p30 : Vec F S256x128 .bf16) (p31 : Vec F S256x128 .bf16) (y : S256x4096.Idx) :
    ∃ pc ∈ ([⟨r0_63, p0⟩, ⟨r0_62, p1⟩, ⟨r0_59, p2⟩, ⟨r0_58, p3⟩, ⟨r0_55, p4⟩, ⟨r0_54, p5⟩, ⟨r0_51, p6⟩, ⟨r0_50, p7⟩, ⟨r0_47, p8⟩, ⟨r0_46, p9⟩, ⟨r0_43, p10⟩, ⟨r0_42, p11⟩, ⟨r0_39, p12⟩, ⟨r0_38, p13⟩, ⟨r0_35, p14⟩, ⟨r0_34, p15⟩, ⟨r0_31, p16⟩, ⟨r0_30, p17⟩, ⟨r0_27, p18⟩, ⟨r0_26, p19⟩, ⟨r0_23, p20⟩, ⟨r0_22, p21⟩, ⟨r0_19, p22⟩, ⟨r0_18, p23⟩, ⟨r0_15, p24⟩, ⟨r0_14, p25⟩, ⟨r0_11, p26⟩, ⟨r0_10, p27⟩, ⟨r0_7, p28⟩, ⟨r0_6, p29⟩, ⟨r0_3, p30⟩, ⟨r0_2, p31⟩] : List (View.Piece (Elt F) S256x4096 .bf16)), y ∈ pc.1.set :=
  View.cover_of_tiled [⟨r0_63, p0⟩, ⟨r0_62, p1⟩, ⟨r0_59, p2⟩, ⟨r0_58, p3⟩, ⟨r0_55, p4⟩, ⟨r0_54, p5⟩, ⟨r0_51, p6⟩, ⟨r0_50, p7⟩, ⟨r0_47, p8⟩, ⟨r0_46, p9⟩, ⟨r0_43, p10⟩, ⟨r0_42, p11⟩, ⟨r0_39, p12⟩, ⟨r0_38, p13⟩, ⟨r0_35, p14⟩, ⟨r0_34, p15⟩, ⟨r0_31, p16⟩, ⟨r0_30, p17⟩, ⟨r0_27, p18⟩, ⟨r0_26, p19⟩, ⟨r0_23, p20⟩, ⟨r0_22, p21⟩, ⟨r0_19, p22⟩, ⟨r0_18, p23⟩, ⟨r0_15, p24⟩, ⟨r0_14, p25⟩, ⟨r0_11, p26⟩, ⟨r0_10, p27⟩, ⟨r0_7, p28⟩, ⟨r0_6, p29⟩, ⟨r0_3, p30⟩, ⟨r0_2, p31⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2048 .i8) (harg1 : arg1.IsWhole) (arg2 : Memref sig .tc .vmem S256x16 .f32) (harg2 : arg2.IsWhole) (arg3 : Memref sig .tc .vmem S256x4096 .bf16) (harg3 : arg3.IsWhole)
    (x0 : Vec F S256x2048 .i8) (x1 : Vec F S256x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_dequant i arg1 harg1 arg2 harg2 arg3 harg3) K := by
  simp only [cc0_dequant_eq_skeleton]; unfold cc0_dequant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant
    the one of Lib/Pipeline/Frame.lean (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.Region1.lean ====
/- The second region (the forward product), at the buffer contents `V` it is entered from: what each window reads, what the body leaves in each output, the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_fwd` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x4096 := Rect.unit (s := S1024x4096) ![0, 0] S1024x4096.size inb_S1024x4096_S1024x4096_0_0
abbrev r1_1 : Rect S1024x1024 := Rect.unit (s := S1024x1024) ![0, 0] S1024x1024.size inb_S1024x1024_S1024x1024_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S1024x4096 .bf16) (x1 : Vec F S1024x4096 .bf16) : Vec F S1024x1024 .bf16 :=
  View.canon [⟨r1_1, k1_pay1 (View.ld x0 r1_0) (View.ld x1 r1_0)⟩]

/-- Its stores tile the buffer (checked by evaluation), so they cover it. -/
theorem cover1_2 (p0 : Vec F S1024x1024 .bf16) (y : S1024x1024.Idx) :
    ∃ pc ∈ ([⟨r1_1, p0⟩] : List (View.Piece (Elt F) S1024x1024 .bf16)), y ∈ pc.1.set :=
  View.cover_of_tiled [⟨r1_1, p0⟩] S1024x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1024x4096 .bf16) (harg2 : arg2.IsWhole) (arg3 : Memref sig .tc .vmem S1024x4096 .bf16) (harg3 : arg3.IsWhole) (arg4 : Memref sig .tc .vmem S1024x1024 .bf16) (harg4 : arg4.IsWhole)
    (x0 : Vec F S1024x4096 .bf16) (x1 : Vec F S1024x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_fwd i arg2 harg2 arg3 harg3 arg4 harg4) K := by
  simp only [cc1_fwd_eq_skeleton]; unfold cc1_fwd_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant
    the one of Lib/Pipeline/Frame.lean (`ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.Region2.lean ====
/- The third region (the gradient of the activations), at the buffer contents `V` it is entered from. Its scratch accumulator is carried from point to point: `outsAt2` gives output and accumulator after each point, `PhiS2` is the invariant that states them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dx` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 2).val) 0#32)) 0#32) = 1#1
/-- It holds at the points ≡ 0 (mod 7) — by arithmetic of the point. -/
theorem hcond2_0 : ∀ t : Fin cfg2.N, cond2_0 (grid2.coords t) ↔ t.val % 7 = 0 :=
  (fun t => by
    have ht : t.val < 84 := Nat.lt_of_lt_of_eq t.isLt N_2
    have e0 : (grid2.coords t 0).val = t.val / 14 % 6 := Pipeline.Grid.coords_val t 0 (by decide) rfl
    have e1 : (grid2.coords t 1).val = t.val / 7 % 2 := Pipeline.Grid.coords_val t 1 (by decide) rfl
    have e2 : (grid2.coords t 2).val = t.val / 1 % 7 := Pipeline.Grid.coords_val t 2 (by decide) rfl
    simp only [cond2_0, e0, e1, e2]
    word_cmp
   : ∀ t : Fin grid2.N, cond2_0 (grid2.coords t) ↔ t.val % 7 = 0)

/-- The condition of the body's `scf.if` 1 (`k2_h2`), from the grid coordinates (the skeleton's scalar
    chain substituted). -/
abbrev cond2_1 (i : grid2.Coords) : Prop := k2_cond2 i = 1#1
/-- It holds at the points ≡ 6 (mod 7) — by arithmetic of the point. -/
theorem hcond2_1 : ∀ t : Fin cfg2.N, cond2_1 (grid2.coords t) ↔ t.val % 7 = 6 :=
  (fun t => by
    have ht : t.val < 84 := Nat.lt_of_lt_of_eq t.isLt N_2
    have e0 : (grid2.coords t 0).val = t.val / 14 % 6 := Pipeline.Grid.coords_val t 0 (by decide) rfl
    have e1 : (grid2.coords t 1).val = t.val / 7 % 2 := Pipeline.Grid.coords_val t 1 (by decide) rfl
    have e2 : (grid2.coords t 2).val = t.val / 1 % 7 := Pipeline.Grid.coords_val t 2 (by decide) rfl
    simp only [cond2_1, k2_cond2, e0, e1, e2]
    word_cmp
   : ∀ t : Fin grid2.N, cond2_1 (grid2.coords t) ↔ t.val % 7 = 6)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- At the points of case A the printed configuration (`Cfg.idle`) calls output 2 idle: the case stores nothing into it. -/
theorem idleAt2_2_A : ∀ t : Fin cfg2.N, cond2_0 (grid2.coords t) → ¬cond2_1 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → (cfg2.win 2).flush t = false := by decide +kernel
/-- At the points of case B the printed configuration (`Cfg.idle`) calls output 2 idle: the case stores nothing into it. -/
theorem idleAt2_2_B : ∀ t : Fin cfg2.N, ¬cond2_0 (grid2.coords t) → ¬cond2_1 (grid2.coords t) → cfg2.idle 2 (grid2.coords t) = true := by decide +kernel
/-- At the points of case B the pipeline does not write output 2's block back. -/
theorem noFlush2_2_B : ∀ t : Fin cfg2.N, ¬cond2_0 (grid2.coords t) → ¬cond2_1 (grid2.coords t) → (cfg2.win 2).flush t = false := by decide +kernel
/-- At the points of case C the printed configuration (`Cfg.idle`) calls output 2 live: the case stores into it. -/
theorem liveAt2_2_C : ∀ t : Fin cfg2.N, ¬cond2_0 (grid2.coords t) → cond2_1 (grid2.coords t) → cfg2.idle 2 (grid2.coords t) = false := by decide +kernel

/-! ## The kernel body on any staging memrefs: a subtype the run finds -/

/-- One staging buffer of output window 2, through which its contents are stated (`View.read_writes_of_cover`: the
    choice does not matter). -/
abbrev VO2_2 : View sig .tc .vmem S1024x2048 .bf16 := (Memref.whole cc2_stg2_0 : Memref sig .tc .vmem S1024x2048 .bf16).view
/-- Each window's current staging memref at point `t`, spelled as the pipeline passes it (`bodyAt2`), and its wholeness. -/
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .bf16 := win2_2.stage (cfg2.slots t 2)
abbrev hs2_2 (t : Fin cfg2.N) : (ms2_2 t).IsWhole := hstage2_2 ((cfg2.slots t 2).cast nbuf2_2)
/-- The scratch operands: whole scoped buffers of the kernel's own, passed beside the windows. -/
abbrev scM2_0 : Memref sig .tc .vmem S1024x2048 .f32 := Memref.whole cc2_scratch0
/-- The scratch `arg6` the kernel carries between points, as a view: what it holds is stated through it. -/
abbrev VS2_0 : View sig .tc .vmem S1024x2048 .f32 := scM2_0.view

/-- The library's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2_0 fullShare d) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_stg0_0), ((c : Thread nD τ).loc cc3_stg0_0) ↦{fullShare} f)) ∗ (∃ r, prngReg c r)) := by
  unfold Pipeline.ΦA; rw [scopedRest2_eq]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 7, … 77: 12 of 84), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : cond2_0 i) (hc1 : ¬cond2_1 i)
    (x0 : Vec F S1024x2048 .bf16) (x1 : Vec F S2048x2048 .bf16) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2_dx i arg3 harg3 arg4 harg4 arg5 harg5 arg6 harg6) K } := by
  refine ⟨[], ?_, fun xi2 E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Case A stores nothing into output 2 (the window is idle at its points and not written back there):
    no pieces — a placeholder (junk read back) that nothing consults, since at these points the window is neither
    written back nor read at the next point (Lib/Pipeline.lean "Idle points"). -/
def out2_A_2 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : cond2_0 i) (hc1 : ¬cond2_1 i)
    (x0 : Vec F S1024x2048 .bf16) (x1 : Vec F S2048x2048 .bf16) : Vec F S1024x2048 .bf16 :=
  VO2_2.read (Elt F) (VO2_2.writes (Elt F) VO2_2.junk (kernelRun2_A c i arg3 harg3 arg4 harg4 arg5 harg5 arg6 harg6 hc0 hc1 x0 x1).1)

/-- Case A's pieces for scratch `arg6`, which the kernel carries between points, cover it: 2 pieces of `S1024x2048` tiling it (Lib/Ring.lean `Piece.tiledL`). -/
theorem scover2_A_0 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : cond2_0 i) (hc1 : ¬cond2_1 i)
    (x0 : Vec F S1024x2048 .bf16) (x1 : Vec F S2048x2048 .bf16) (y : S1024x2048.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x2048.size (by sl_kernel_rfl) y

/-- What case A leaves in scratch `arg6`: its pieces read back over junk. -/
def sout2_A_0 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : cond2_0 i) (hc1 : ¬cond2_1 i)
    (x0 : Vec F S1024x2048 .bf16) (x1 : Vec F S2048x2048 .bf16) : Vec F S1024x2048 .f32 :=
  VS2_0.read (Elt F) (VS2_0.writes (Elt F) VS2_0.junk (kernelRun2_A c i arg3 harg3 arg4 harg4 arg5 harg5 arg6 harg6 hc0 hc1 x0 x1).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 82: 60 of 84), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : ¬cond2_1 i)
    (x0 : Vec F S1024x2048 .bf16) (x1 : Vec F S2048x2048 .bf16) (xs0 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2_dx i arg3 harg3 arg4 harg4 arg5 harg5 arg6 harg6) K } := by
  refine ⟨[], ?_, fun xi2 E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Case B stores nothing into output 2 (the window is idle at its points and not written back there):
    no pieces — a placeholder (junk read back) that nothing consults, since at these points the window is neither
    written back nor read at the next point (Lib/Pipeline.lean "Idle points"). -/
def out2_B_2 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : ¬cond2_1 i)
    (x0 : Vec F S1024x2048 .bf16) (x1 : Vec F S2048x2048 .bf16) (xs0 : Vec F S1024x2048 .f32) : Vec F S1024x2048 .bf16 :=
  VO2_2.read (Elt F) (VO2_2.writes (Elt F) VO2_2.junk (kernelRun2_B c i arg3 harg3 arg4 harg4 arg5 harg5 arg6 harg6 hc0 hc1 x0 x1 xs0).1)

/-- Case B's pieces for scratch `arg6`, which the kernel carries between points, cover it: 1 piece of `S1024x2048` tiling it (Lib/Ring.lean `Piece.tiledL`). -/
theorem scover2_B_0 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : ¬cond2_1 i)
    (x0 : Vec F S1024x2048 .bf16) (x1 : Vec F S2048x2048 .bf16) (xs0 : Vec F S1024x2048 .f32) (y : S1024x2048.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x2048.size (by sl_kernel_rfl) y

/-- What case B leaves in scratch `arg6`: its pieces read back over junk. -/
def sout2_B_0 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : ¬cond2_1 i)
    (x0 : Vec F S1024x2048 .bf16) (x1 : Vec F S2048x2048 .bf16) (xs0 : Vec F S1024x2048 .f32) : Vec F S1024x2048 .f32 :=
  VS2_0.read (Elt F) (VS2_0.writes (Elt F) VS2_0.junk (kernelRun2_B c i arg3 harg3 arg4 harg4 arg5 harg5 arg6 harg6 hc0 hc1 x0 x1 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 6, 13, … 83: 12 of 84), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : cond2_1 i)
    (x0 : Vec F S1024x2048 .bf16) (x1 : Vec F S2048x2048 .bf16) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2_dx i arg3 harg3 arg4 harg4 arg5 harg5 arg6 harg6) K } := by
  refine ⟨?_, ?_, fun E K => ?run⟩
  case run =>
    simp only [cc2_dx_eq_skeleton]; unfold cc2_dx_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- Case C's pieces for output 2 tile its block (1 store of `S1024x2048`, checked by the kernel's evaluation: Lib/Ring.lean `Piece.tiledL`, linear in the pieces, through a loop's `@[irreducible]` trip theorem too), so they cover it. -/
theorem cover2_C_2 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : cond2_1 i)
    (x0 : Vec F S1024x2048 .bf16) (x1 : Vec F S2048x2048 .bf16) (xs0 : Vec F S1024x2048 .f32) (y : S1024x2048.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1024x2048.size (by sl_kernel_rfl) y

/-- What case C leaves in output 2's staging buffer: its pieces read back over junk. -/
def out2_C_2 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : cond2_1 i)
    (x0 : Vec F S1024x2048 .bf16) (x1 : Vec F S2048x2048 .bf16) (xs0 : Vec F S1024x2048 .f32) : Vec F S1024x2048 .bf16 :=
  VO2_2.read (Elt F) (VO2_2.writes (Elt F) VO2_2.junk (kernelRun2_C c i arg3 harg3 arg4 harg4 arg5 harg5 arg6 harg6 hc0 hc1 x0 x1 xs0).1)

/-- Case C's pieces for scratch `arg6`, which the kernel carries between points, cover it: 1 piece of `S1024x2048` tiling it (Lib/Ring.lean `Piece.tiledL`). -/
theorem scover2_C_0 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : cond2_1 i)
    (x0 : Vec F S1024x2048 .bf16) (x1 : Vec F S2048x2048 .bf16) (xs0 : Vec F S1024x2048 .f32) (y : S1024x2048.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1024x2048.size (by sl_kernel_rfl) y

/-- What case C leaves in scratch `arg6`: its pieces read back over junk. -/
def sout2_C_0 (c : Dev nD) (i : grid2.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .f32) (harg6 : arg6.IsWhole) (hc0 : ¬cond2_0 i) (hc1 : cond2_1 i)
    (x0 : Vec F S1024x2048 .bf16) (x1 : Vec F S2048x2048 .bf16) (xs0 : Vec F S1024x2048 .f32) : Vec F S1024x2048 .f32 :=
  VS2_0.read (Elt F) (VS2_0.writes (Elt F) VS2_0.junk (kernelRun2_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x2048 .bf16 × Vec F S1024x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 7 = 0 then
      if h1 : (n + 1) % 7 = 6 then
        False.elim (by have hN : n + 1 < 84 := lt_of_lt_of_eq hn (show cfg2.N = 84 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 7 = 6 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 7 = 0) (h1 : ¬t.val % 7 = 6) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 7 = 0) (h1 : ¬t.val % 7 = 6) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 7 = 0) (h1 : t.val % 7 = 6) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point
    `ΦA` (Lib/Pipeline/Frame.lean: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) scM2_0 fullShare ((outsAt2 V c n hn).2) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_stg0_0), ((c : Thread nD τ).loc cc3_stg0_0) ↦{fullShare} f)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) scM2_0 fullShare ((outsAt2 V c n hn).2) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_stg0_0), ((c : Thread nD τ).loc cc3_stg0_0) ↦{fullShare} f)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) scM2_0 fullShare ((outsAt2 V c (n - 1) (by omega)).2) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_stg0_0), ((c : Thread nD τ).loc cc3_stg0_0) ↦{fullShare} f)) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant
    `PhiS2` (`ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 84 := lt_of_lt_of_eq t.isLt (show cfg2.N = 84 from N_2)
  by_cases h0 : t.val % 7 = 0
  · by_cases h1 : t.val % 7 = 6
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      by_cases hz : t.val = 0
      · rw [PhiS2_castSucc V c t, PhiS2_zero V c _ _ hz, PhiA2_eq]
        rw [outsAt2_A V c t h0 h1]
        unfold sout2_A_0; (try dsimp only)
        iintro ⟨⟨⟨HR0, HR1, HR2, HR3, HR4, HR5, HR6, HR7, HR8, HR9, HR10, HR11, HS0, HR13, HR14, HR15, HR16, HR17, HR18, HR19, HR20, HR21, HR22⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HR9 HR10 HR11 HS0 HR13 HR14 HR15 HR16 HR17 HR18 HR19 HR20 HR21 HR22 Hg]
        · isplitl [HR0 HR1 HR2 HR3 HR4 HR5 HR6 HR7 HR8 HR9 HR10 HR11 HS0 HR13 HR14 HR15 HR16 HR17 HR18 HR19 HR20 HR21 HR22]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HS0]
            · unfold owns; iexists _; isplitr
              swap; · iexact HS0
              ipureintro; exact View.read_writes_of_cover _ _ _ _ _ (scover2_A_0 c _ _ _ _ _ _ _ _ _ _ _ _ _)
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            iexact HR22
          iexact Hg
        isplitl [Ho]; · iexact Ho
        isplitl [H0]; · iexact H0
        isplitl [H1]; · iexact H1
        iexists _; iexact H2
      · rw [PhiS2_castSucc V c t, PhiS2_pos V c _ _ hz]
        rw [outsAt2_A V c t h0 h1]
        unfold sout2_A_0; (try dsimp only)
        iintro ⟨⟨⟨HR0, HR1, HR2, HR3, HR4, HR5, HR6, HR7, HR8, HR9, HR10, HR11, HS0, HR13, HR14, HR15, HR16, HR17, HR18, HR19, HR20, HR21, HR22⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HR7 HR8 HR9 HR10 HR11 HS0 HR13 HR14 HR15 HR16 HR17 HR18 HR19 HR20 HR21 HR22 Hg]
        · isplitl [HR0 HR1 HR2 HR3 HR4 HR5 HR6 HR7 HR8 HR9 HR10 HR11 HS0 HR13 HR14 HR15 HR16 HR17 HR18 HR19 HR20 HR21 HR22]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HS0]
            · unfold owns; iexists _; isplitr
              swap; · iexact HS0
              ipureintro; exact View.read_writes_of_cover _ _ _ _ _ (scover2_A_0 c _ _ _ _ _ _ _ _ _ _ _ _ _)
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            iexact HR22
          iexact Hg
        isplitl [Ho]; · iexact Ho
        isplitl [H0]; · iexact H0
        isplitl [H1]; · iexact H1
        iexists _; iexact H2
  · by_cases h1 : t.val % 7 = 6
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1)], after2_2]
      by_cases hz : t.val = 0
      · exfalso; have hN : t.val < 84 := lt_of_lt_of_eq t.isLt (show cfg2.N = 84 from N_2); omega
      · rw [PhiS2_castSucc V c t, PhiS2_pos V c _ _ hz]
        rw [outsAt2_C V c t h0 h1]
        unfold out2_C_2 sout2_C_0; (try dsimp only)
        iintro ⟨⟨⟨HR0, HR1, HR2, HR3, HR4, HR5, HR6, HR7, HR8, HR9, HR10, HR11, HS0, HR13, HR14, HR15, HR16, HR17, HR18, HR19, HR20, HR21, HR22⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HR7 HR8 HR9 HR10 HR11 HS0 HR13 HR14 HR15 HR16 HR17 HR18 HR19 HR20 HR21 HR22 Hg]
        · isplitl [HR0 HR1 HR2 HR3 HR4 HR5 HR6 HR7 HR8 HR9 HR10 HR11 HS0 HR13 HR14 HR15 HR16 HR17 HR18 HR19 HR20 HR21 HR22]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HS0]
            · unfold owns; iexists _; isplitr
              swap; · iexact HS0
              ipureintro; exact View.read_writes_of_cover _ _ _ _ _ (scover2_C_0 c _ _ _ _ _ _ _ _ _ _ _ _ _ _)
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            iexact HR22
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      by_cases hz : t.val = 0
      · exfalso; have hN : t.val < 84 := lt_of_lt_of_eq t.isLt (show cfg2.N = 84 from N_2); omega
      · rw [PhiS2_castSucc V c t, PhiS2_pos V c _ _ hz]
        rw [outsAt2_B V c t h0 h1]
        unfold sout2_B_0; (try dsimp only)
        iintro ⟨⟨⟨HR0, HR1, HR2, HR3, HR4, HR5, HR6, HR7, HR8, HR9, HR10, HR11, HS0, HR13, HR14, HR15, HR16, HR17, HR18, HR19, HR20, HR21, HR22⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HR9 HR10 HR11 HS0 HR13 HR14 HR15 HR16 HR17 HR18 HR19 HR20 HR21 HR22 Hg]
        · isplitl [HR0 HR1 HR2 HR3 HR4 HR5 HR6 HR7 HR8 HR9 HR10 HR11 HS0 HR13 HR14 HR15 HR16 HR17 HR18 HR19 HR20 HR21 HR22]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HS0]
            · unfold owns; iexists _; isplitr
              swap; · iexact HS0
              ipureintro; exact View.read_writes_of_cover _ _ _ _ _ (scover2_B_0 c _ _ _ _ _ _ _ _ _ _ _ _ _ _)
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            iexact HR22
          iexact Hg
        isplitl [Ho]; · iexact Ho
        isplitl [H0]; · iexact H0
        isplitl [H1]; · iexact H1
        iexists _; iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HS0, HR13, HR14, HR15, HR16, HR17, HR18, HR19, HR20, HR21, HR22⟩, Hg⟩
  isplitl [HR0 HR1 HR2 HR3 HR4 HR5 HR6 HR7 HR8 HR9 HR10 HR11 HS0 HR13 HR14 HR15 HR16 HR17 HR18 HR19 HR20 HR21 HR22]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HS0]
    · iexists _; iexact HS0
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    iexact HR22
  iexact Hg

/-- The same after the last point. -/
theorem hout2 (c : Dev nD) : (dat2 V c).Φ (Fin.last cfg2.N) ⊢ Pipeline.ΦA spec2 c :=
  Phi_out2 V c _ (by rw [Fin.val_last]; have : cfg2.N = 84 := N_2; omega)

end Regions

end Cert.KernelIdeal.Gen

end
-- ==== Proof.Frame.Region3.lean ====
/- The fourth region (the gradient of the weights, quantised), at the buffer contents `V` it is entered from. Its scratch accumulator is carried from point to point: `outsAt3` gives outputs and accumulator after each point, `PhiS3` is the invariant that states them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_dw` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 2).val) 0#32)) 0#32) = 1#1
/-- It holds at the points ≡ 0 (mod 3) — by arithmetic of the point. -/
theorem hcond3_0 : ∀ t : Fin cfg3.N, cond3_0 (grid3.coords t) ↔ t.val % 3 = 0 :=
  (fun t => by
    have ht : t.val < 168 := Nat.lt_of_lt_of_eq t.isLt N_3
    have e0 : (grid3.coords t 0).val = t.val / 12 % 14 := Pipeline.Grid.coords_val t 0 (by decide) rfl
    have e1 : (grid3.coords t 1).val = t.val / 3 % 4 := Pipeline.Grid.coords_val t 1 (by decide) rfl
    have e2 : (grid3.coords t 2).val = t.val / 1 % 3 := Pipeline.Grid.coords_val t 2 (by decide) rfl
    simp only [cond3_0, e0, e1, e2]
    word_cmp
   : ∀ t : Fin grid3.N, cond3_0 (grid3.coords t) ↔ t.val % 3 = 0)

/-- The condition of the body's `scf.if` 1 (`k3_h2`), from the grid coordinates (the skeleton's scalar
    chain substituted). -/
abbrev cond3_1 (i : grid3.Coords) : Prop := k3_cond2 i = 1#1
/-- It holds at the points ≡ 2 (mod 3) — by arithmetic of the point. -/
theorem hcond3_1 : ∀ t : Fin cfg3.N, cond3_1 (grid3.coords t) ↔ t.val % 3 = 2 :=
  (fun t => by
    have ht : t.val < 168 := Nat.lt_of_lt_of_eq t.isLt N_3
    have e0 : (grid3.coords t 0).val = t.val / 12 % 14 := Pipeline.Grid.coords_val t 0 (by decide) rfl
    have e1 : (grid3.coords t 1).val = t.val / 3 % 4 := Pipeline.Grid.coords_val t 1 (by decide) rfl
    have e2 : (grid3.coords t 2).val = t.val / 1 % 3 := Pipeline.Grid.coords_val t 2 (by decide) rfl
    simp only [cond3_1, k3_cond2, e0, e1, e2]
    word_cmp
   : ∀ t : Fin grid3.N, cond3_1 (grid3.coords t) ↔ t.val % 3 = 2)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- At the points of case A the printed configuration (`Cfg.idle`) calls output 3 idle: the case stores nothing into it. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B the printed configuration (`Cfg.idle`) calls output 3 idle: the case stores nothing into it. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C the printed configuration (`Cfg.idle`) calls output 3 live: the case stores into it. -/
theorem liveAt3_3_C : ∀ t : Fin cfg3.N, ¬cond3_0 (grid3.coords t) → cond3_1 (grid3.coords t) → cfg3.idle 3 (grid3.coords t) = false := by decide +kernel
/-- At the points of case A the printed configuration (`Cfg.idle`) calls output 4 idle: the case stores nothing into it. -/
theorem idleAt3_4_A : ∀ t : Fin cfg3.N, cond3_0 (grid3.coords t) → ¬cond3_1 (grid3.coords t) → cfg3.idle 4 (grid3.coords t) = true := by decide +kernel
/-- At the points of case A the pipeline does not write output 4's block back. -/
theorem noFlush3_4_A : ∀ t : Fin cfg3.N, cond3_0 (grid3.coords t) → ¬cond3_1 (grid3.coords t) → (cfg3.win 4).flush t = false := by decide +kernel
/-- At the points of case B the printed configuration (`Cfg.idle`) calls output 4 idle: the case stores nothing into it. -/
theorem idleAt3_4_B : ∀ t : Fin cfg3.N, ¬cond3_0 (grid3.coords t) → ¬cond3_1 (grid3.coords t) → cfg3.idle 4 (grid3.coords t) = true := by decide +kernel
/-- At the points of case B the pipeline does not write output 4's block back. -/
theorem noFlush3_4_B : ∀ t : Fin cfg3.N, ¬cond3_0 (grid3.coords t) → ¬cond3_1 (grid3.coords t) → (cfg3.win 4).flush t = false := by decide +kernel
/-- At the points of case C the printed configuration (`Cfg.idle`) calls output 4 live: the case stores into it. -/
theorem liveAt3_4_C : ∀ t : Fin cfg3.N, ¬cond3_0 (grid3.coords t) → cond3_1 (grid3.coords t) → cfg3.idle 4 (grid3.coords t) = false := by decide +kernel

/-! ## The kernel body on any staging memrefs: a subtype the run finds -/

/-- One staging buffer of output window 3, through which its contents are stated (`View.read_writes_of_cover`: the
    choice does not matter). -/
abbrev VO3_3 : View sig .tc .vmem S1024x512 .i8 := (Memref.whole cc3_stg3_0 : Memref sig .tc .vmem S1024x512 .i8).view
/-- One staging buffer of output window 4, through which its contents are stated (`View.read_writes_of_cover`: the
    choice does not matter). -/
abbrev VO3_4 : View sig .tc .vmem S1x1024x4 .f32 := (Memref.whole cc3_stg4_0 : Memref sig .tc .vmem S1x1024x4 .f32).view
/-- Each window's current staging memref at point `t`, spelled as the pipeline passes it (`bodyAt3`), and its wholeness. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .i8 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024x4 .f32 := win3_4.stage (cfg3.slots t 4)
abbrev hs3_4 (t : Fin cfg3.N) : (ms3_4 t).IsWhole := hstage3_4 ((cfg3.slots t 4).cast nbuf3_4)
/-- The scratch operands: whole scoped buffers of the kernel's own, passed beside the windows. -/
abbrev scM3_0 : Memref sig .tc .vmem S1024x1024 .f32 := Memref.whole cc3_scratch0
/-- The scratch `arg8` the kernel carries between points, as a view: what it holds is stated through it. -/
abbrev VS3_0 : View sig .tc .vmem S1024x1024 .f32 := scM3_0.view

/-- The library's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ d, owns (c : Thread nD τ) scM3_0 fullShare d)) ∗ (∃ r, prngReg c r)) := by
  unfold Pipeline.ΦA; rw [scopedRest3_eq]; simp only [scM3_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 3, … 165: 56 of 168), WITH the
    proof that on whole staging memrefs — the inputs' at their contents, the outputs it leaves idle (3, 4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : cond3_0 i) (hc1 : ¬cond3_1 i)
    (x0 : Vec F S1 .f32) (x1 : Vec F S2048x1024 .bf16) (x2 : Vec F S2048x1024 .bf16) :
    Σ' (L3 : List (View.Piece (Elt F) S1024x512 .i8)), Σ' (L4 : List (View.Piece (Elt F) S1x1024x4 .f32)), { LS0 : List (View.Piece (Elt F) S1024x1024 .f32) //
      ∀ (xi3 : Vec F S1024x512 .i8) (xi4 : Vec F S1x1024x4 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc3_dw i arg3 harg3 arg4 harg4 arg5 harg5 arg6 harg6 arg7 harg7 arg8 harg8) K } := by
  refine ⟨[], [], ?_, fun xi3 xi4 E K => ?run⟩
  case run =>
    simp only [cc3_dw_eq_skeleton]; unfold cc3_dw_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case A stores nothing into output 3 (the window is idle at its points and not written back there):
    no pieces — a placeholder (junk read back) that nothing consults, since at these points the window is neither
    written back nor read at the next point (Lib/Pipeline.lean "Idle points"). -/
def out3_A_3 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : cond3_0 i) (hc1 : ¬cond3_1 i)
    (x0 : Vec F S1 .f32) (x1 : Vec F S2048x1024 .bf16) (x2 : Vec F S2048x1024 .bf16) : Vec F S1024x512 .i8 :=
  VO3_3.read (Elt F) (VO3_3.writes (Elt F) VO3_3.junk (kernelRun3_A c i arg3 harg3 arg4 harg4 arg5 harg5 arg6 harg6 arg7 harg7 arg8 harg8 hc0 hc1 x0 x1 x2).1)

/-- Case A stores nothing into output 4 (the window is idle at its points and not written back there):
    no pieces — a placeholder (junk read back) that nothing consults, since at these points the window is neither
    written back nor read at the next point (Lib/Pipeline.lean "Idle points"). -/
def out3_A_4 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : cond3_0 i) (hc1 : ¬cond3_1 i)
    (x0 : Vec F S1 .f32) (x1 : Vec F S2048x1024 .bf16) (x2 : Vec F S2048x1024 .bf16) : Vec F S1x1024x4 .f32 :=
  VO3_4.read (Elt F) (VO3_4.writes (Elt F) VO3_4.junk (kernelRun3_A c i arg3 harg3 arg4 harg4 arg5 harg5 arg6 harg6 arg7 harg7 arg8 harg8 hc0 hc1 x0 x1 x2).2.1)

/-- Case A's pieces for scratch `arg8`, which the kernel carries between points, cover it: 2 pieces of `S1024x1024` tiling it (Lib/Ring.lean `Piece.tiledL`). -/
theorem scover3_A_0 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : cond3_0 i) (hc1 : ¬cond3_1 i)
    (x0 : Vec F S1 .f32) (x1 : Vec F S2048x1024 .bf16) (x2 : Vec F S2048x1024 .bf16) (y : S1024x1024.Idx) :
    ∃ pc ∈ (kernelRun3_A c i arg3 harg3 arg4 harg4 arg5 harg5 arg6 harg6 arg7 harg7 arg8 harg8 hc0 hc1 x0 x1 x2).2.2.1, y ∈ pc.1.set :=
  View.cover_of_tiledL (kernelRun3_A c i arg3 harg3 arg4 harg4 arg5 harg5 arg6 harg6 arg7 harg7 arg8 harg8 hc0 hc1 x0 x1 x2).2.2.1 S1024x1024.size (by sl_kernel_rfl) y

/-- What case A leaves in scratch `arg8`: its pieces read back over junk. -/
def sout3_A_0 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : cond3_0 i) (hc1 : ¬cond3_1 i)
    (x0 : Vec F S1 .f32) (x1 : Vec F S2048x1024 .bf16) (x2 : Vec F S2048x1024 .bf16) : Vec F S1024x1024 .f32 :=
  VS3_0.read (Elt F) (VS3_0.writes (Elt F) VS3_0.junk (kernelRun3_A c i arg3 harg3 arg4 harg4 arg5 harg5 arg6 harg6 arg7 harg7 arg8 harg8 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 4, … 166: 56 of 168), WITH the
    proof that on whole staging memrefs — the inputs' at their contents, the outputs it leaves idle (3, 4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : ¬cond3_1 i)
    (x0 : Vec F S1 .f32) (x1 : Vec F S2048x1024 .bf16) (x2 : Vec F S2048x1024 .bf16) (xs0 : Vec F S1024x1024 .f32) :
    Σ' (L3 : List (View.Piece (Elt F) S1024x512 .i8)), Σ' (L4 : List (View.Piece (Elt F) S1x1024x4 .f32)), { LS0 : List (View.Piece (Elt F) S1024x1024 .f32) //
      ∀ (xi3 : Vec F S1024x512 .i8) (xi4 : Vec F S1x1024x4 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc3_dw i arg3 harg3 arg4 harg4 arg5 harg5 arg6 harg6 arg7 harg7 arg8 harg8) K } := by
  refine ⟨[], [], ?_, fun xi3 xi4 E K => ?run⟩
  case run =>
    simp only [cc3_dw_eq_skeleton]; unfold cc3_dw_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case B stores nothing into output 3 (the window is idle at its points and not written back there):
    no pieces — a placeholder (junk read back) that nothing consults, since at these points the window is neither
    written back nor read at the next point (Lib/Pipeline.lean "Idle points"). -/
def out3_B_3 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : ¬cond3_1 i)
    (x0 : Vec F S1 .f32) (x1 : Vec F S2048x1024 .bf16) (x2 : Vec F S2048x1024 .bf16) (xs0 : Vec F S1024x1024 .f32) : Vec F S1024x512 .i8 :=
  VO3_3.read (Elt F) (VO3_3.writes (Elt F) VO3_3.junk (kernelRun3_B c i arg3 harg3 arg4 harg4 arg5 harg5 arg6 harg6 arg7 harg7 arg8 harg8 hc0 hc1 x0 x1 x2 xs0).1)

/-- Case B stores nothing into output 4 (the window is idle at its points and not written back there):
    no pieces — a placeholder (junk read back) that nothing consults, since at these points the window is neither
    written back nor read at the next point (Lib/Pipeline.lean "Idle points"). -/
def out3_B_4 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : ¬cond3_1 i)
    (x0 : Vec F S1 .f32) (x1 : Vec F S2048x1024 .bf16) (x2 : Vec F S2048x1024 .bf16) (xs0 : Vec F S1024x1024 .f32) : Vec F S1x1024x4 .f32 :=
  VO3_4.read (Elt F) (VO3_4.writes (Elt F) VO3_4.junk (kernelRun3_B c i arg3 harg3 arg4 harg4 arg5 harg5 arg6 harg6 arg7 harg7 arg8 harg8 hc0 hc1 x0 x1 x2 xs0).2.1)

/-- Case B's pieces for scratch `arg8`, which the kernel carries between points, cover it: 1 piece of `S1024x1024` tiling it (Lib/Ring.lean `Piece.tiledL`). -/
theorem scover3_B_0 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : ¬cond3_1 i)
    (x0 : Vec F S1 .f32) (x1 : Vec F S2048x1024 .bf16) (x2 : Vec F S2048x1024 .bf16) (xs0 : Vec F S1024x1024 .f32) (y : S1024x1024.Idx) :
    ∃ pc ∈ (kernelRun3_B c i arg3 harg3 arg4 harg4 arg5 harg5 arg6 harg6 arg7 harg7 arg8 harg8 hc0 hc1 x0 x1 x2 xs0).2.2.1, y ∈ pc.1.set :=
  View.cover_of_tiledL (kernelRun3_B c i arg3 harg3 arg4 harg4 arg5 harg5 arg6 harg6 arg7 harg7 arg8 harg8 hc0 hc1 x0 x1 x2 xs0).2.2.1 S1024x1024.size (by sl_kernel_rfl) y

/-- What case B leaves in scratch `arg8`: its pieces read back over junk. -/
def sout3_B_0 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : ¬cond3_1 i)
    (x0 : Vec F S1 .f32) (x1 : Vec F S2048x1024 .bf16) (x2 : Vec F S2048x1024 .bf16) (xs0 : Vec F S1024x1024 .f32) : Vec F S1024x1024 .f32 :=
  VS3_0.read (Elt F) (VS3_0.writes (Elt F) VS3_0.junk (kernelRun3_B c i arg3 harg3 arg4 harg4 arg5 harg5 arg6 harg6 arg7 harg7 arg8 harg8 hc0 hc1 x0 x1 x2 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 2, 5, … 167: 56 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) :
    Σ' (L3 : List (View.Piece (Elt F) S1024x512 .i8)), Σ' (L4 : List (View.Piece (Elt F) S1x1024x4 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc3_dw i arg3 harg3 arg4 harg4 arg5 harg5 arg6 harg6 arg7 harg7 arg8 harg8) K } := by
  refine ⟨?_, ?_, ?_, fun E K => ?run⟩
  case run =>
    simp only [cc3_dw_eq_skeleton]; unfold cc3_dw_skel
    simp only [k3_part1_eq_skeleton, k3_part2_eq_skeleton, k3_part3_eq_skeleton, k3_part4_eq_skeleton, k3_part5_eq_skeleton, k3_part6_eq_skeleton, k3_part7_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS0

/-- Case C's pieces for output 3 tile its block (4 stores of `S1024x128`, checked by the kernel's evaluation: Lib/Ring.lean `Piece.tiledL`, linear in the pieces, through a loop's `@[irreducible]` trip theorem too), so they cover it. -/
theorem cover3_C_3 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) (y : S1024x512.Idx) :
    ∃ pc ∈ (kernelRun3_C c i arg3 harg3 arg4 harg4 arg5 harg5 arg6 harg6 arg7 harg7 arg8 harg8 hc0 hc1 x0 x1 x2 xs0).1, y ∈ pc.1.set :=
  View.cover_of_tiledL (kernelRun3_C c i arg3 harg3 arg4 harg4 arg5 harg5 arg6 harg6 arg7 harg7 arg8 harg8 hc0 hc1 x0 x1 x2 xs0).1 S1024x128.size (by sl_kernel_rfl) y

/-- What case C leaves in output 3's staging buffer: its pieces read back over junk. -/
def out3_C_3 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) : Vec F S1024x512 .i8 :=
  VO3_3.read (Elt F) (VO3_3.writes (Elt F) VO3_3.junk (kernelRun3_C c i arg3 harg3 arg4 harg4 arg5 harg5 arg6 harg6 arg7 harg7 arg8 harg8 hc0 hc1 x0 x1 x2 xs0).1)

/-- Case C's pieces for output 4 tile its block (1 store of `S1x1024x4`, checked by the kernel's evaluation: Lib/Ring.lean `Piece.tiledL`, linear in the pieces, through a loop's `@[irreducible]` trip theorem too), so they cover it. -/
theorem cover3_C_4 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) (y : S1x1024x4.Idx) :
    ∃ pc ∈ (kernelRun3_C c i arg3 harg3 arg4 harg4 arg5 harg5 arg6 harg6 arg7 harg7 arg8 harg8 hc0 hc1 x0 x1 x2 xs0).2.1, y ∈ pc.1.set :=
  View.cover_of_tiledL (kernelRun3_C c i arg3 harg3 arg4 harg4 arg5 harg5 arg6 harg6 arg7 harg7 arg8 harg8 hc0 hc1 x0 x1 x2 xs0).2.1 S1x1024x4.size (by sl_kernel_rfl) y

/-- What case C leaves in output 4's staging buffer: its pieces read back over junk. -/
def out3_C_4 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) : Vec F S1x1024x4 .f32 :=
  VO3_4.read (Elt F) (VO3_4.writes (Elt F) VO3_4.junk (kernelRun3_C c i arg3 harg3 arg4 harg4 arg5 harg5 arg6 harg6 arg7 harg7 arg8 harg8 hc0 hc1 x0 x1 x2 xs0).2.1)

/-- Case C's pieces for scratch `arg8`, which the kernel carries between points, cover it: 1 piece of `S1024x1024` tiling it (Lib/Ring.lean `Piece.tiledL`). -/
theorem scover3_C_0 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) (y : S1024x1024.Idx) :
    ∃ pc ∈ (kernelRun3_C c i arg3 harg3 arg4 harg4 arg5 harg5 arg6 harg6 arg7 harg7 arg8 harg8 hc0 hc1 x0 x1 x2 xs0).2.2.1, y ∈ pc.1.set :=
  View.cover_of_tiledL (kernelRun3_C c i arg3 harg3 arg4 harg4 arg5 harg5 arg6 harg6 arg7 harg7 arg8 harg8 hc0 hc1 x0 x1 x2 xs0).2.2.1 S1024x1024.size (by sl_kernel_rfl) y

/-- What case C leaves in scratch `arg8`: its pieces read back over junk. -/
def sout3_C_0 (c : Dev nD) (i : grid3.Coords) (arg3 : Memref sig .tc .smem S1 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x512 .i8) (harg6 : arg6.IsWhole) (arg7 : Memref sig .tc .vmem S1x1024x4 .f32) (harg7 : arg7.IsWhole) (arg8 : Memref sig .tc .vmem S1024x1024 .f32) (harg8 : arg8.IsWhole) (hc0 : ¬cond3_0 i) (hc1 : cond3_1 i)
    (x0 : Vec F S1 .f32) (x1 : Vec F S2048x1024 .bf16) (x2 : Vec F S2048x1024 .bf16) (xs0 : Vec F S1024x1024 .f32) : Vec F S1024x1024 .f32 :=
  VS3_0.read (Elt F) (VS3_0.writes (Elt F) VS3_0.junk (kernelRun3_C c i arg3 harg3 arg4 harg4 arg5 harg5 arg6 harg6 arg7 harg7 arg8 harg8 hc0 hc1 x0 x1 x2 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1024x512 .i8 × Vec F S1x1024x4 .f32 × Vec F S1024x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 3 = 0 then
      if h1 : (n + 1) % 3 = 2 then
        False.elim (by have hN : n + 1 < 168 := lt_of_lt_of_eq hn (show cfg3.N = 168 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 3 = 2 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

/-- `outsAt3` at a point of case A: that case's contents. -/
theorem outsAt3_A (c : Dev nD) (t : Fin cfg3.N) (h0 : t.val % 3 = 0) (h1 : ¬t.val % 3 = 2) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 3 = 0) (h1 : ¬t.val % 3 = 2) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 3 = 0) (h1 : t.val % 3 = 2) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point
    `ΦA` (Lib/Pipeline/Frame.lean: every scratch at anything); afterwards the scoped rest with each carried scratch
    at what the point before left in it (`outsAt3`'s scratch components), the others at anything, and the generator register
    at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ owns (c : Thread nD τ) scM3_0 fullShare ((outsAt3 V c n hn).2.2)) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ owns (c : Thread nD τ) scM3_0 fullShare ((outsAt3 V c n hn).2.2)) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ owns (c : Thread nD τ) scM3_0 fullShare ((outsAt3 V c (n - 1) (by omega)).2.2)) ∗ (∃ r, prngReg c r)) := by
  cases n with
  | zero => exact absurd rfl hz
  | succ n => rfl

/-! ## The pipeline's proof data -/

/-- The proof data of pipeline 3 on core `c`: the arrays as the region finds them (`V`); after the body at
    point `t` each input's buffer at its block and the outputs' at `outsAt3`; the invariant
    `PhiS3` (`ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; exact Pipeline.Dat.Φ_castSucc (PhiS3 V c) t

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks (`before3_W`); the closed forms say which case the point is in (`by_cases`), an output the case reads before covering holds what the point before left (`before3_W_κ`); so the
    run applies; the invariant hands the body the carried scratch at what the point before left (`PhiS3_pos`; at anything at the first point, `PhiS3_zero`), the other scratch buffers and the generator register at some state, and takes the carried scratch back at this point's contents (`PhiS3_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 168 := lt_of_lt_of_eq t.isLt (show cfg3.N = 168 from N_3)
  by_cases h0 : t.val % 3 = 0
  · by_cases h1 : t.val % 3 = 2
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      by_cases hz : t.val = 0
      · rw [PhiS3_castSucc V c t, PhiS3_zero V c _ _ hz, PhiA3_eq]
        rw [outsAt3_A V c t h0 h1]
        unfold sout3_A_0; (try dsimp only)
        iintro ⟨⟨⟨HR0, HR1, HR2, HR3, HR4, HR5, HR6, HR7, HR8, HR9, HR10, HR11, HR12, HR13, HR14, HR15, HR16, HR17, HR18, HS0⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HR14 HR15 HR16 HR17 HR18 HS0 Hg]
        · isplitl [HR0 HR1 HR2 HR3 HR4 HR5 HR6 HR7 HR8 HR9 HR10 HR11 HR12 HR13 HR14 HR15 HR16 HR17 HR18 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            unfold owns; iexists _; isplitr
            swap; · iexact HS0
            ipureintro; exact View.read_writes_of_cover _ _ _ _ _ (scover3_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS3_castSucc V c t, PhiS3_pos V c _ _ hz]
        rw [outsAt3_A V c t h0 h1]
        unfold sout3_A_0; (try dsimp only)
        iintro ⟨⟨⟨HR0, HR1, HR2, HR3, HR4, HR5, HR6, HR7, HR8, HR9, HR10, HR11, HR12, HR13, HR14, HR15, HR16, HR17, HR18, HS0⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HR7 HR8 HR9 HR10 HR11 HR12 HR13 HR14 HR15 HR16 HR17 HR18 HS0 Hg]
        · isplitl [HR0 HR1 HR2 HR3 HR4 HR5 HR6 HR7 HR8 HR9 HR10 HR11 HR12 HR13 HR14 HR15 HR16 HR17 HR18 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            unfold owns; iexists _; isplitr
            swap; · iexact HS0
            ipureintro; exact View.read_writes_of_cover _ _ _ _ _ (scover3_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 3 = 2
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3_C t (fun h => h0 ((hcond3_0 t).mp h)) ((hcond3_1 t).mpr h1)], after3_3]
      rw [show (dat3 V c).leavesExact 4 t = owns (c : Thread nD τ) (ms3_4 t) fullShare ((dat3 V c).after 4 t) from by
      unfold Dat.leavesExact; rw [liveAt3_4_C t (fun h => h0 ((hcond3_0 t).mp h)) ((hcond3_1 t).mpr h1)], after3_4]
      by_cases hz : t.val = 0
      · exfalso; have hN : t.val < 168 := lt_of_lt_of_eq t.isLt (show cfg3.N = 168 from N_3); omega
      · rw [PhiS3_castSucc V c t, PhiS3_pos V c _ _ hz]
        rw [outsAt3_C V c t h0 h1]
        unfold out3_C_3 out3_C_4 sout3_C_0; (try dsimp only)
        iintro ⟨⟨⟨HR0, HR1, HR2, HR3, HR4, HR5, HR6, HR7, HR8, HR9, HR10, HR11, HR12, HR13, HR14, HR15, HR16, HR17, HR18, HS0⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HR0 HR1 HR2 HR3 HR4 HR5 HR6 HR7 HR8 HR9 HR10 HR11 HR12 HR13 HR14 HR15 HR16 HR17 HR18 HS0 Hg]
        · isplitl [HR0 HR1 HR2 HR3 HR4 HR5 HR6 HR7 HR8 HR9 HR10 HR11 HR12 HR13 HR14 HR15 HR16 HR17 HR18 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            unfold owns; iexists _; isplitr
            swap; · iexact HS0
            ipureintro; exact View.read_writes_of_cover _ _ _ _ _ (scover3_C_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover3_C_3 c _ _ _ _ _ _ _ _ _ _ _ _ _ _ _ _ _ _ _)
        unfold owns; iexists _; isplitr
        swap; · iexact H4
        ipureintro; exact View.read_writes_of_cover _ _ _ _ _ (cover3_C_4 c _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      by_cases hz : t.val = 0
      · exfalso; have hN : t.val < 168 := lt_of_lt_of_eq t.isLt (show cfg3.N = 168 from N_3); omega
      · rw [PhiS3_castSucc V c t, PhiS3_pos V c _ _ hz]
        rw [outsAt3_B V c t h0 h1]
        unfold sout3_B_0; (try dsimp only)
        iintro ⟨⟨⟨HR0, HR1, HR2, HR3, HR4, HR5, HR6, HR7, HR8, HR9, HR10, HR11, HR12, HR13, HR14, HR15, HR16, HR17, HR18, HS0⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HR14 HR15 HR16 HR17 HR18 HS0 Hg]
        · isplitl [HR0 HR1 HR2 HR3 HR4 HR5 HR6 HR7 HR8 HR9 HR10 HR11 HR12 HR13 HR14 HR15 HR16 HR17 HR18 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            unfold owns; iexists _; isplitr
            swap; · iexact HS0
            ipureintro; exact View.read_writes_of_cover _ _ _ _ _ (scover3_B_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HR18, HS0⟩, Hg⟩
  isplitl [HR0 HR1 HR2 HR3 HR4 HR5 HR6 HR7 HR8 HR9 HR10 HR11 HR12 HR13 HR14 HR15 HR16 HR17 HR18 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 168 := N_3; omega)

end Regions

end Cert.KernelIdeal.Gen

end
-- ==== Proof.Frame.Hosts0.lean ====
/- The host stretches between the regions: the references each writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v10, main_v11, main_v12, main_v13, main_v14, main_v15, main_v16]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Gen

end
-- ==== Proof.Frame.Fold0.lean ====
/- The buffer contents at every segment boundary, folded from the launch memory, and the arguments read back through the fold. -/
module

public import proofs.«01_k».proof.Proof.Frame.Region0
public import proofs.«01_k».proof.Proof.Frame.Region1
public import proofs.«01_k».proof.Proof.Frame.Region2
public import proofs.«01_k».proof.Proof.Frame.Region3
public import proofs.«01_k».proof.Proof.Frame.Hosts0

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4`. -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
end Cert.KernelIdeal.Gen

end
-- ==== Proof.Frame.State.lean ====
/- The proof data of the four regions, each at its entry contents, and the thread state between segments. -/
module

public import proofs.«01_k».proof.Proof.Frame.Fold0

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the library's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the regions'
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the library's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

end Cert.KernelIdeal.Gen

end
-- ==== Proof.Frame.Record0.lean ====
/- The first region as a segment of the run. -/
module

public import proofs.«01_k».proof.Proof.Frame.State

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
/- The second region as a segment of the run. -/
module

public import proofs.«01_k».proof.Proof.Frame.State

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
/- The third region as a segment of the run: the carried accumulator is anything on entry and forgotten on exit. -/
module

public import proofs.«01_k».proof.Proof.Frame.State

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hin' : Pipeline.ΦA spec2 c ⊢ (pdats m ρ 2 c).Φ 0 := hin2 (V4 m ρ) c
    refine BIBase.Entails.trans ?_ hin'
    unfold Pipeline.ΦA
    iintro ⟨Hp, -, Hr⟩
    isplitl [Hr]; · iexact Hr
    iexact Hp
  hout c := by
    rw [Pipeline.ownSems0_none]
    have hout' : (pdats m ρ 2 c).Φ (Fin.last _) ⊢ Pipeline.ΦA spec2 c := hout2 (V4 m ρ) c
    refine BIBase.Entails.trans hout' ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record3.lean ====
/- The fourth region as a segment of the run: the carried accumulator is anything on entry and forgotten on exit. -/
module

public import proofs.«01_k».proof.Proof.Frame.State

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hin' : Pipeline.ΦA spec3 c ⊢ (pdats m ρ 3 c).Φ 0 := hin3 (V6 m ρ) c
    refine BIBase.Entails.trans ?_ hin'
    unfold Pipeline.ΦA
    iintro ⟨Hp, -, Hr⟩
    isplitl [Hr]; · iexact Hr
    iexact Hp
  hout c := by
    rw [Pipeline.ownSems0_none]
    have hout' : (pdats m ρ 3 c).Φ (Fin.last _) ⊢ Pipeline.ΦA spec3 c := hout3 (V6 m ρ) c
    refine BIBase.Entails.trans hout' ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Run.lean ====
/- The whole run of the kernel: its segments chained, every unscoped buffer at the last boundary's contents in every final state. -/
module

public import proofs.«01_k».proof.Proof.Frame.Record0
public import proofs.«01_k».proof.Proof.Frame.Record1
public import proofs.«01_k».proof.Proof.Frame.Record2
public import proofs.«01_k».proof.Proof.Frame.Record3

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one, which takes unfolding
-- plain definitions in a metavariable's type
set_option backward.isDefEq.respectTransparency.types false in
/-- The run: from any memory with zero counters, every weakly fair execution of @main terminates, nothing faulting, and
    every final state has each unscoped buffer at its contents `W8` at the last boundary and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c)⟩, h.2⟩) (run m ρ)

end Cert.KernelIdeal.Gen

end
-- ==== Proof.KernelFrame.lean ====
/- The kernel as printed and the kernel read at the ideal instance are the same text: the frame proved of one, at any reading of
   the floats, is the frame of the other at the bit-exact one. -/
module

public import proofs.«01_k».proof.Defs
public import proofs.«01_k».proof.Proof.Frame.Run
public import proofs.«01_k».proof.Proof.Gen.Kernel

@[expose] public section

set_option maxRecDepth 65536

noncomputable section

namespace Cert.Proof

open Idealize.ShloMosaic Idealize.SL.Sem

/-- The frame of the kernel's text, stated of the idealized program at the bit-exact floats. -/
def frameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frameBits_holds : frameBits := fun m g _ => Cert.KernelIdeal.Gen.frame (F := Bits) m g

theorem frame_eq : frameBits = Cert.quiescent_Kernel := by chain_rfl

theorem frame_Kernel : Cert.quiescent_Kernel := frame_eq ▸ frameBits_holds

end Cert.Proof

end
-- ==== Proof.Val.Bytes.lean ====
/- Bytes of a 32-bit word: which rows a reinterpreted word holds, and how the word operations of the two packings act on
   each byte by itself. -/
module

public import Idealize.ShloMosaic.Lib.BitcastFour

@[expose] public section

namespace Cert.KernelIdeal.Val

open Idealize.ShloMosaic Idealize.ShloMosaic.ValueIdx

/-- Byte `b` of a word, byte 0 the lowest. -/
def byteAt (w : BitVec 32) (b : Nat) : BitVec 8 := w.extractLsb' (8 * b) 8

theorem byteAt_getLsbD (w : BitVec 32) (b i : Nat) (hi : i < 8) : (byteAt w b).getLsbD i = w.getLsbD (8 * b + i) := by
  unfold byteAt
  rw [BitVec.getLsbD_extractLsb']
  simp [hi]

/-- Byte `b` of the word at row `a` of the reinterpretation is row `4a + b` of the bytes. -/
theorem byteAt_bitcast {R r n : Nat} (x : (⟨2, ![R, n]⟩ : Shape).Idx → BitVec 8)
    (h : (⟨2, ![R, n]⟩ : Shape).Bitcasts 8 ⟨2, ![r, n]⟩ 32) (a : Fin r) (l : Fin n) (b : Nat) (hb : b < 4) (p : Fin R)
    (hp : p.val = 4 * a.val + b) :
    byteAt (bitcast ⟨2, ![r, n]⟩ 32 x h (ix2 a l)) b = x (ix2 p l) := by
  apply BitVec.eq_of_getLsbD_eq
  intro i hi
  rw [byteAt_getLsbD _ _ _ hi, bitcast_8_32_getLsbD_ix2 x h a l (8 * b + i) (by omega) p (by omega)]
  congr 1
  omega

/-- Row `p` of the bytes of a block of words is byte `p % 4` of word row `p / 4`. -/
theorem bitcast_bytes {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byteAt (x (ix2 a l)) (p.val % 4) := by
  have hr : (⟨2, ![R, n]⟩ : Shape).row (ix2 p l) = p.val := rfl
  apply BitVec.eq_of_getLsbD_eq
  intro i hi
  rw [byteAt_getLsbD _ _ _ hi, bitcast_getLsbD x h (ix2 p l) i hi (by decide)]
  have e : ∀ c, (x c).getLsbD (((⟨2, ![R, n]⟩ : Shape).row (ix2 p l) * 8 + i) % 32) = (x c).getLsbD (8 * (p.val % 4) + i) := by
    intro c; congr 1; rw [hr]; omega
  rw [e]
  congr 2
  funext c
  match c with
  | ⟨0, _⟩ => exact Fin.ext ((h.srcIdx_row _ _ _ ⟨0, Nat.zero_lt_two⟩ rfl).trans (by rw [hr, ha]; omega))
  | ⟨1, _⟩ => exact Fin.ext (h.srcIdx_other _ _ _ ⟨1, Nat.one_lt_two⟩ (by show ¬ 1 + 2 = 2; omega))

theorem byteAt_and (x y : BitVec 32) (b : Nat) : byteAt (x &&& y) b = byteAt x b &&& byteAt y b := by
  apply BitVec.eq_of_getLsbD_eq; intro i hi
  simp only [byteAt_getLsbD _ _ _ hi, BitVec.getLsbD_and]

theorem byteAt_or (x y : BitVec 32) (b : Nat) : byteAt (x ||| y) b = byteAt x b ||| byteAt y b := by
  apply BitVec.eq_of_getLsbD_eq; intro i hi
  simp only [byteAt_getLsbD _ _ _ hi, BitVec.getLsbD_or]

theorem byteAt_xor (x y : BitVec 32) (b : Nat) : byteAt (x ^^^ y) b = byteAt x b ^^^ byteAt y b := by
  apply BitVec.eq_of_getLsbD_eq; intro i hi
  simp only [byteAt_getLsbD _ _ _ hi, BitVec.getLsbD_xor]

/-- A right shift by at most a nibble and the mask of low nibbles act on each byte. -/
theorem byteAt_nibble (x : BitVec 32) (s b : Nat) (hs : s ≤ 4) (hb : b < 4) :
    byteAt ((x >>> s) &&& 252645135#32) b = (byteAt x b >>> s) &&& 15#8 := by
  have m : ∀ b : Fin 4, ∀ i : Fin 8, (252645135#32).getLsbD (8 * b.val + i.val) = decide (i.val < 4) := by decide
  have m' : ∀ i : Fin 8, (15#8).getLsbD i.val = decide (i.val < 4) := by decide
  apply BitVec.eq_of_getLsbD_eq; intro i hi
  rw [byteAt_getLsbD _ _ _ hi, BitVec.getLsbD_and, BitVec.getLsbD_and, BitVec.getLsbD_ushiftRight, BitVec.getLsbD_ushiftRight,
    m ⟨b, hb⟩ ⟨i, hi⟩, m' ⟨i, hi⟩]
  by_cases h : i < 4
  · rw [byteAt_getLsbD _ _ _ (by omega : s + i < 8), show 8 * b + (s + i) = s + (8 * b + i) by omega]
  · simp [h]

/-- A left shift by a nibble of a word of low nibbles acts on each byte. -/
theorem byteAt_shiftLeft (x : BitVec 32) (b : Nat) (hb : b < 4) :
    byteAt ((x &&& 252645135#32) <<< 4) b = (byteAt x b &&& 15#8) <<< 4 := by
  have m : ∀ b : Fin 4, ∀ i : Fin 8, (252645135#32).getLsbD (8 * b.val + i.val) = decide (i.val < 4) := by decide
  have m0 : ∀ b : Fin 4, ∀ i : Fin 8, i.val < 4 → ¬ (8 * b.val + i.val < 4) → (252645135#32).getLsbD (8 * b.val + i.val - 4) = false := by decide
  have m1 : ∀ b : Fin 4, ∀ i : Fin 8, ¬ i.val < 4 → (252645135#32).getLsbD (8 * b.val + i.val - 4) = true := by decide
  have m' : ∀ i : Fin 8, ¬ i.val < 4 → (15#8).getLsbD (i.val - 4) = true := by decide
  apply BitVec.eq_of_getLsbD_eq; intro i hi
  rw [byteAt_getLsbD _ _ _ hi, BitVec.getLsbD_shiftLeft, BitVec.getLsbD_shiftLeft, BitVec.getLsbD_and, BitVec.getLsbD_and]
  by_cases h : i < 4
  · by_cases h2 : 8 * b + i < 4
    · simp [h, h2]
    · have := m0 ⟨b, hb⟩ ⟨i, hi⟩ h h2
      simp only at this
      simp [h, this]
  · have q1 := m1 ⟨b, hb⟩ ⟨i, hi⟩ h
    have q2 := m' ⟨i, hi⟩ h
    simp only at q1 q2
    rw [q1, q2, byteAt_getLsbD _ _ _ (by omega : i - 4 < 8), show 8 * b + (i - 4) = 8 * b + i - 4 by omega]
    have : 8 * b + i < 32 := by omega
    have : ¬ 8 * b + i < 4 := by omega
    simp [*]

theorem byteAt_toNat (x : BitVec 32) (b : Nat) : (byteAt x b).toNat = x.toNat / 2 ^ (8 * b) % 256 := by
  unfold byteAt
  rw [BitVec.extractLsb'_toNat, Nat.shiftRight_eq_div_pow]

/-- Taking 8 off every byte of a word whose bytes are at least 8 borrows across no byte. -/
theorem byteAt_sub (x : BitVec 32) (hx : ∀ b, b < 4 → 8 ≤ (byteAt x b).toNat) (b : Nat) (hb : b < 4) :
    byteAt (x - 134744072#32) b = byteAt x b - 8#8 := by
  apply BitVec.eq_of_toNat_eq
  rw [byteAt_toNat, BitVec.toNat_sub, BitVec.toNat_sub, byteAt_toNat]
  have h0 := hx 0 (by omega)
  have h1 := hx 1 (by omega)
  have h2 := hx 2 (by omega)
  have h3 := hx 3 (by omega)
  have hl := x.isLt
  rw [byteAt_toNat] at h0 h1 h2 h3
  have k : (134744072#32 : BitVec 32).toNat = 134744072 := rfl
  have k8 : (8#8 : BitVec 8).toNat = 8 := rfl
  rw [k, k8]
  norm_num at h0 h1 h2 h3 hl ⊢
  have : b = 0 ∨ b = 1 ∨ b = 2 ∨ b = 3 := by omega
  rcases this with h | h | h | h <;> subst h <;> norm_num <;> omega

theorem byteAt_8 (b : Nat) (hb : b < 4) : byteAt 134744072#32 b = 8#8 := by
  have : ∀ b : Fin 4, byteAt 134744072#32 b.val = 8#8 := by decide
  exact this ⟨b, hb⟩

theorem byteAt_128 (b : Nat) (hb : b < 4) : byteAt 2155905152#32 b = 128#8 := by
  have : ∀ b : Fin 4, byteAt 2155905152#32 b.val = 128#8 := by decide
  exact this ⟨b, hb⟩

/-- The signed value of a nibble, at every byte: what the dequantiser's word operations leave. -/
theorem byteAt_signed (w : BitVec 32) (s b : Nat) (hs : s ≤ 4) (hb : b < 4) :
    byteAt ((((((w >>> s) &&& 252645135#32) ^^^ 134744072#32) ||| 2155905152#32) - 134744072#32) ^^^ 2155905152#32) b
      = ((((((byteAt w b >>> s) &&& 15#8) ^^^ 8#8) ||| 128#8) - 8#8) ^^^ 128#8) := by
  have big : ∀ n : BitVec 8, 8 ≤ (((n &&& 15#8) ^^^ 8#8) ||| 128#8).toNat := by decide +kernel
  rw [byteAt_xor, byteAt_128 b hb, byteAt_sub _ _ b hb, byteAt_or, byteAt_xor, byteAt_nibble _ _ _ hs hb, byteAt_8 b hb, byteAt_128 b hb]
  intro b hb
  rw [byteAt_or, byteAt_xor, byteAt_nibble _ _ _ hs hb, byteAt_8 b hb, byteAt_128 b hb]
  exact big _

/-- The signed nibble of a byte: the low one (`s = 0`) or the high one (`s = 4`). -/
def nib (B : BitVec 8) (s : Nat) : BitVec 32 := (((B.setWidth 32 >>> s) &&& 15#32) ^^^ 8#32) - 8#32

theorem signed_toInt (B : BitVec 8) (k : Fin 2) :
    ((((((B >>> (4 * k.val)) &&& 15#8) ^^^ 8#8) ||| 128#8) - 8#8) ^^^ 128#8).toInt = (nib B (4 * k.val)).toInt := by
  revert B k
  unfold nib
  decide +kernel

end Cert.KernelIdeal.Val
-- ==== Proof.Val.Deq.lean ====
/- What one call of the dequantiser's body leaves: each of its stores is one half of a block of columns, the signed nibbles of
   the packed bytes times the block's scale. -/
module

public import proofs.«01_k».proof.Proof.Frame.Region0
public import proofs.«01_k».proof.Proof.Val.Bytes
public import Idealize.ShloMosaic.Lib.Pipeline.Value
public import Idealize.ShloMosaic.PureOps.Ideal
public import Idealize.ShloMosaic.Lib.Pointwise.ElementwiseCore

@[expose] public section

set_option maxRecDepth 16384

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Val
open scoped BigOperators

/-! ## One half of one block -/

section Half
variable {F : FTy → Type} [FloatOps F]

/-- The lane each lane of half `h` reads its word from (`h` is 0 or 64): half its own number, plus `h`. -/
def source (h : BitVec 32) : IVec S64x128 32 :=
  addi (shrsi (iota .tc S64x128 32 [1] iota_S64x128_d1_w32) (broadcast S64x128 1#32)) (broadcast S64x128 h)

/-- The same after the wrap of negative indices, which changes nothing, and a reshape there and back. -/
def wrapped (h : BitVec 32) : IVec S64x128 32 :=
  shapeCast S64x128 (shapeCast S64x128x1
    (select (cmpi .slt (source h) (broadcast S64x128 0#32)) (addi (source h) (broadcast S64x128 128#32)) (source h))
    shapeCasts_S64x128_S64x128x1) shapeCasts_S64x128x1_S64x128

/-- The words the lanes read. -/
def words (h : BitVec 32) (x : Vec F S256x128 .i8) : IVec S64x128 32 :=
  dynamicGather 1 (bitcast S64x128 32 (shapeCast S256x128 x shapeCasts_S256x128_S256x128) bitcasts_S256x128_w8_S64x128_w32) (wrapped h)

/-- How far each lane shifts its word: 4 at the odd lanes. -/
def shift : IVec S64x128 32 :=
  muli (andi (iota .tc S64x128 32 [1] iota_S64x128_d1_w32) (broadcast S64x128 1#32)) (broadcast S64x128 4#32)

/-- The signed nibbles, four to a word. -/
def signed (h : BitVec 32) (x : Vec F S256x128 .i8) : IVec S64x128 32 :=
  xori (subi (ori (xori (andi (shrui (words h x) shift) (broadcast S64x128 252645135#32)) (broadcast S64x128 134744072#32))
    (broadcast S64x128 2155905152#32)) (broadcast S64x128 134744072#32)) (broadcast S64x128 2155905152#32)

/-- Half `h` of a block of packed bytes, dequantised. -/
def deq (h : BitVec 32) (x : Vec F S256x128 .i8) (s : Vec F S256x1 .f32) : FVec F S256x128 .bf16 :=
  truncf .bf16 (mulf (sitofp .f32 (bitcast S256x128 8 (signed h x) bitcasts_S64x128_w32_S256x128_w8))
    (broadcastTo S256x128 (shapeCast S256x1 s shapeCasts_S256x1_S256x1) broadcasts_S256x1_S256x128)) bitsLt_bf16_f32

/-- Every store of the body is one half of one block, dequantised. -/
theorem out0_2_eq (x0 : Vec F S256x2048 .i8) (x1 : Vec F S256x16 .f32) : out0_2 x0 x1 =
    View.canon [⟨r0_63, deq 64#32 (View.ld x0 r0_60) (View.ld x1 r0_61)⟩,
    ⟨r0_62, deq 0#32 (View.ld x0 r0_60) (View.ld x1 r0_61)⟩,
    ⟨r0_59, deq 64#32 (View.ld x0 r0_56) (View.ld x1 r0_57)⟩,
    ⟨r0_58, deq 0#32 (View.ld x0 r0_56) (View.ld x1 r0_57)⟩,
    ⟨r0_55, deq 64#32 (View.ld x0 r0_52) (View.ld x1 r0_53)⟩,
    ⟨r0_54, deq 0#32 (View.ld x0 r0_52) (View.ld x1 r0_53)⟩,
    ⟨r0_51, deq 64#32 (View.ld x0 r0_48) (View.ld x1 r0_49)⟩,
    ⟨r0_50, deq 0#32 (View.ld x0 r0_48) (View.ld x1 r0_49)⟩,
    ⟨r0_47, deq 64#32 (View.ld x0 r0_44) (View.ld x1 r0_45)⟩,
    ⟨r0_46, deq 0#32 (View.ld x0 r0_44) (View.ld x1 r0_45)⟩,
    ⟨r0_43, deq 64#32 (View.ld x0 r0_40) (View.ld x1 r0_41)⟩,
    ⟨r0_42, deq 0#32 (View.ld x0 r0_40) (View.ld x1 r0_41)⟩,
    ⟨r0_39, deq 64#32 (View.ld x0 r0_36) (View.ld x1 r0_37)⟩,
    ⟨r0_38, deq 0#32 (View.ld x0 r0_36) (View.ld x1 r0_37)⟩,
    ⟨r0_35, deq 64#32 (View.ld x0 r0_32) (View.ld x1 r0_33)⟩,
    ⟨r0_34, deq 0#32 (View.ld x0 r0_32) (View.ld x1 r0_33)⟩,
    ⟨r0_31, deq 64#32 (View.ld x0 r0_28) (View.ld x1 r0_29)⟩,
    ⟨r0_30, deq 0#32 (View.ld x0 r0_28) (View.ld x1 r0_29)⟩,
    ⟨r0_27, deq 64#32 (View.ld x0 r0_24) (View.ld x1 r0_25)⟩,
    ⟨r0_26, deq 0#32 (View.ld x0 r0_24) (View.ld x1 r0_25)⟩,
    ⟨r0_23, deq 64#32 (View.ld x0 r0_20) (View.ld x1 r0_21)⟩,
    ⟨r0_22, deq 0#32 (View.ld x0 r0_20) (View.ld x1 r0_21)⟩,
    ⟨r0_19, deq 64#32 (View.ld x0 r0_16) (View.ld x1 r0_17)⟩,
    ⟨r0_18, deq 0#32 (View.ld x0 r0_16) (View.ld x1 r0_17)⟩,
    ⟨r0_15, deq 64#32 (View.ld x0 r0_12) (View.ld x1 r0_13)⟩,
    ⟨r0_14, deq 0#32 (View.ld x0 r0_12) (View.ld x1 r0_13)⟩,
    ⟨r0_11, deq 64#32 (View.ld x0 r0_8) (View.ld x1 r0_9)⟩,
    ⟨r0_10, deq 0#32 (View.ld x0 r0_8) (View.ld x1 r0_9)⟩,
    ⟨r0_7, deq 64#32 (View.ld x0 r0_4) (View.ld x1 r0_5)⟩,
    ⟨r0_6, deq 0#32 (View.ld x0 r0_4) (View.ld x1 r0_5)⟩,
    ⟨r0_3, deq 64#32 (View.ld x0 r0_0) (View.ld x1 r0_1)⟩,
    ⟨r0_2, deq 0#32 (View.ld x0 r0_0) (View.ld x1 r0_1)⟩] := rfl

end Half

/-! ## One entry of a half -/

theorem shift_apply (a : Fin 64) (l : Fin 128) : shift (ix2 a l) = BitVec.ofNat 32 (4 * (l.val % 2)) := by
  have e : ∀ l : Fin 128, (BitVec.ofNat 32 l.val &&& 1#32) * 4#32 = BitVec.ofNat 32 (4 * (l.val % 2)) := by decide +kernel
  refine Eq.trans ?_ (e l)
  unfold shift
  show (iota .tc S64x128 32 [1] iota_S64x128_d1_w32 (ix2 a l) &&& 1#32) * 4#32 = _
  rw [iota_single_apply]

theorem wrapped_apply (h : Fin 2) (a : Fin 64) (l : Fin 128) :
    (wrapped (BitVec.ofNat 32 (64 * h.val)) (ix2 a l)).toNat % 128 = 64 * h.val + l.val / 2 := by
  have e : ∀ h : Fin 2, ∀ l : Fin 128,
      (Scalar.select (IntOp.cmpi .slt (IntOp.addi (IntOp.shrsi .vector (BitVec.ofNat 32 l.val) 1#32) (BitVec.ofNat 32 (64 * h.val))) 0#32)
        (IntOp.addi (IntOp.addi (IntOp.shrsi .vector (BitVec.ofNat 32 l.val) 1#32) (BitVec.ofNat 32 (64 * h.val))) 128#32)
        (IntOp.addi (IntOp.shrsi .vector (BitVec.ofNat 32 l.val) 1#32) (BitVec.ofNat 32 (64 * h.val)))).toNat % 128
      = 64 * h.val + l.val / 2 := by decide +kernel
  refine Eq.trans ?_ (e h l)
  unfold wrapped
  rw [shapeCast_shapeCast]
  unfold source
  show (Scalar.select (IntOp.cmpi .slt (IntOp.addi (IntOp.shrsi .vector (iota .tc S64x128 32 [1] iota_S64x128_d1_w32 (ix2 a l)) 1#32) _) 0#32)
    (IntOp.addi (IntOp.addi (IntOp.shrsi .vector (iota .tc S64x128 32 [1] iota_S64x128_d1_w32 (ix2 a l)) 1#32) _) 128#32)
    (IntOp.addi (IntOp.shrsi .vector (iota .tc S64x128 32 [1] iota_S64x128_d1_w32 (ix2 a l)) 1#32) _)).toNat % 128 = _
  rw [iota_single_apply]
  rfl

/-- Byte `p % 4` of the word a lane reads is the packed byte of row `p` at the lane's source. -/
theorem words_apply (h : Fin 2) (x : Vec Ideal S256x128 .i8) (p : Fin 256) (a : Fin 64) (ha : a.val = p.val / 4) (l m : Fin 128)
    (hm : m.val = 64 * h.val + l.val / 2) :
    byteAt (words (BitVec.ofNat 32 (64 * h.val)) x (ix2 a l)) (p.val % 4) = x (ix2 p m) := by
  unfold words
  rw [dynamicGather_apply, shapeCast_self]
  refine Eq.trans ?_ (byteAt_bitcast (R := 256) (r := 64) (n := 128) x bitcasts_S256x128_w8_S64x128_w32 a m (p.val % 4) (by omega) p (by omega))
  congr 2
  funext b
  match b with
  | ⟨0, _⟩ => rfl
  | ⟨1, _⟩ => exact Fin.ext ((wrapped_apply h a l).trans hm.symm)

/-- Entry (p, l) of half `h` of a block. -/
theorem deq_apply (h : Fin 2) (x : Vec Ideal S256x128 .i8) (s : Vec Ideal S256x1 .f32) (p : Fin 256) (l m : Fin 128)
    (hm : m.val = 64 * h.val + l.val / 2) :
    deq (BitVec.ofNat 32 (64 * h.val)) x s (ix2 p l)
      = (((nib (x (ix2 p m)) (4 * (l.val % 2))).toInt : ℝ) : EReal) * s (ix2 p 0) := by
  have hp := p.isLt
  obtain ⟨a, ha⟩ : ∃ a : Fin 64, a.val = p.val / 4 := ⟨⟨p.val / 4, by omega⟩, rfl⟩
  have hs : signed (BitVec.ofNat 32 (64 * h.val)) x (ix2 a l)
      = ((((((words (BitVec.ofNat 32 (64 * h.val)) x (ix2 a l)) >>> (4 * (l.val % 2))) &&& 252645135#32) ^^^ 134744072#32)
          ||| 2155905152#32) - 134744072#32) ^^^ 2155905152#32 := by
    have q : ∀ W : BitVec 32, IntOp.shrui .vector W (shift (ix2 a l)) = W >>> (4 * (l.val % 2)) := by
      intro W
      have t : (shift (ix2 a l)).toNat = 4 * (l.val % 2) := by
        rw [shift_apply, BitVec.toNat_ofNat]; omega
      unfold IntOp.shrui
      rw [if_pos (by rw [t]; omega)]
      show W >>> (shift (ix2 a l)).toNat = _
      rw [t]
    unfold signed
    show ((((IntOp.shrui .vector (words (BitVec.ofNat 32 (64 * h.val)) x (ix2 a l)) (shift (ix2 a l))) &&& 252645135#32) ^^^ 134744072#32)
          ||| 2155905152#32) - 134744072#32 ^^^ 2155905152#32 = _
    rw [q]
  have hb : bitcast S256x128 8 (signed (BitVec.ofNat 32 (64 * h.val)) x) bitcasts_S64x128_w32_S256x128_w8 (ix2 p l)
      = ((((((x (ix2 p m) >>> (4 * (l.val % 2))) &&& 15#8) ^^^ 8#8) ||| 128#8) - 8#8) ^^^ 128#8) := by
    refine (bitcast_bytes (R := 256) (r := 64) (n := 128) _ bitcasts_S64x128_w32_S256x128_w8 p l a ha).trans ?_
    rw [hs, byteAt_signed _ _ _ (by omega) (by omega), words_apply h x p a ha l m hm]
  unfold deq
  show (((bitcast S256x128 8 (signed (BitVec.ofNat 32 (64 * h.val)) x) bitcasts_S64x128_w32_S256x128_w8 (ix2 p l)).toInt : ℝ) : EReal)
    * broadcastTo S256x128 (shapeCast S256x1 s shapeCasts_S256x1_S256x1) broadcasts_S256x1_S256x128 (ix2 p l) = _
  rw [hb, shapeCast_self, broadcastTo_apply s broadcasts_S256x1_S256x128 (ix2 p l) (ix2 p 0) (by
    intro a; match a with
    | ⟨0, _⟩ => rfl
    | ⟨1, _⟩ => rfl)]
  rw [show (4 * (l.val % 2)) = 4 * (⟨l.val % 2, by omega⟩ : Fin 2).val from rfl, signed_toInt]

/-! ## A block of rows -/

/-- The weights of packed bytes and scales, `R` rows of them. -/
def weights (R : Nat) (x : (⟨2, ![R, 2048]⟩ : Shape).Idx → BitVec 8) (s : (⟨2, ![R, 16]⟩ : Shape).Idx → EReal) :
    (⟨2, ![R, 4096]⟩ : Shape).Idx → EReal :=
  fun i => HMul.hMul (α := EReal) (β := EReal)
    (((nib (x (ix2 (i 0) ⟨(i 1).val / 2, by have : (i 1).val < 4096 := (i 1).isLt; omega⟩)) (4 * ((i 1).val % 2))).toInt : ℝ) : EReal)
    (s (ix2 (i 0) ⟨(i 1).val / 256, by have : (i 1).val < 4096 := (i 1).isLt; omega⟩))

/-- A half of a block is its rectangle of the weights. -/
theorem piece (x0 : Vec Ideal S256x2048 .i8) (x1 : Vec Ideal S256x16 .f32) (h : Fin 2) (H : BitVec 32)
    (a b d : Nat) (ia ib id) (hH : H = BitVec.ofNat 32 (64 * h.val)) (ha : a = 128 * b) (hd : d = 256 * b + 128 * h.val) (x : S256x128.Idx) :
    deq H (View.ld x0 (Rect.unit (s := S256x2048) ![0, a] S256x128.size ia))
      (View.ld x1 (Rect.unit (s := S256x16) ![0, b] S256x1.size ib)) x
      = weights 256 x0 x1 ((Rect.unit (s := S256x4096) ![0, d] S256x128.size id).emb x) := by
  subst hH
  have hl : (x 1 : Nat) < 128 := (x 1).isLt
  have hb : b < 16 := by have := ib 1; show _; change b + 1 ≤ 16 at this; omega
  have hh := h.isLt
  obtain ⟨m, hm⟩ : ∃ m : Fin 128, m.val = 64 * h.val + (x 1 : Nat) / 2 := ⟨⟨_, by omega⟩, rfl⟩
  refine (congrArg _ (eq_ix2 x)).trans ((deq_apply h _ _ (x 0) (x 1) m hm).trans ?_)
  have e0 : (((Rect.unit (s := S256x4096) ![0, d] S256x128.size id).emb x 0 : Fin _) : Nat) = x 0 := by
    show 0 + 1 * (x 0 : Nat) = x 0; omega
  have e1 : (((Rect.unit (s := S256x4096) ![0, d] S256x128.size id).emb x 1 : Fin _) : Nat) = d + x 1 := by
    show d + 1 * (x 1 : Nat) = d + x 1; omega
  unfold weights
  generalize (Rect.unit (s := S256x4096) ![0, d] S256x128.size id).emb x = y at e0 e1 ⊢
  have c0 : View.ld x0 (Rect.unit (s := S256x2048) ![0, a] S256x128.size ia) (ix2 (x 0) m)
      = x0 (ix2 (y 0) ⟨(y 1).val / 2, by have : (y 1).val < 4096 := (y 1).isLt; omega⟩) := by
    refine congrArg x0 (funext fun q => Fin.ext ?_)
    match q with
    | ⟨0, _⟩ => show 0 + 1 * (x 0 : Nat) = (y 0 : Nat); omega
    | ⟨1, _⟩ => show a + 1 * m.val = (y 1 : Nat) / 2; omega
  have c1 : View.ld x1 (Rect.unit (s := S256x16) ![0, b] S256x1.size ib) (ix2 (x 0) 0)
      = x1 (ix2 (y 0) ⟨(y 1).val / 256, by have : (y 1).val < 4096 := (y 1).isLt; omega⟩) := by
    refine congrArg x1 (funext fun q => Fin.ext ?_)
    match q with
    | ⟨0, _⟩ => show 0 + 1 * (x 0 : Nat) = (y 0 : Nat); omega
    | ⟨1, _⟩ => show b + 1 * 0 = (y 1 : Nat) / 256; omega
  rw [c0, c1, show (x 1 : Nat) % 2 = (y 1 : Nat) % 2 by omega]

end Cert.KernelIdeal.Val0

end
-- ==== Proof.Val.Value0.lean ====
/- What the dequantiser leaves: entry (n, k) of the weight matrix is the signed nibble of column k of row n's packed bytes,
   times the scale of the block of 256 columns it lies in. -/
module

public import proofs.«01_k».proof.Proof.Frame.Region0
public import proofs.«01_k».proof.Proof.Val.Deq
public import Idealize.ShloMosaic.Lib.Pipeline.Value
public import Idealize.ShloMosaic.PureOps.Ideal
public import Idealize.ShloMosaic.Lib.Pointwise.ElementwiseCore

@[expose] public section

set_option maxRecDepth 16384

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Val
open scoped BigOperators

/-- The body leaves the weights of its block of rows. -/
theorem out0_2_apply (x0 : Vec Ideal S256x2048 .i8) (x1 : Vec Ideal S256x16 .f32) : out0_2 x0 x1 = weights 256 x0 x1 := by
  rw [out0_2_eq]
  funext y
  refine View.canon_apply_of_pieces (Val := Elt Ideal) (e := .bf16) (weights 256 x0 x1) _ ?_ y (cover0_2 _ _ _ _ _ _ _ _ _ _ _ _ _ _ _ _ _ _ _ _ _ _ _ _ _ _ _ _ _ _ _ _ y)
  iterate 16
    refine List.forall_mem_cons.mpr ⟨fun x => ?_, ?_⟩
    · dsimp only
      exact piece x0 x1 1 _ _ _ _ _ _ _ (by decide) (by decide) (by decide) x
    refine List.forall_mem_cons.mpr ⟨fun x => ?_, ?_⟩
    · dsimp only
      exact piece x0 x1 0 _ _ _ _ _ _ _ (by decide) (by decide) (by decide) x
  exact fun _ h => absurd h List.not_mem_nil

/-! ## The whole array -/

variable (V : (c : Dev nD) → (b : Ref sig .tc) → Buf (Elt Ideal) ((c : Thread nD τ).loc b))

/-- Where the blocks of grid point `t` lie. -/
theorem index0 : ∀ t : Fin grid0.N,
    win0_0.index t 0 = t.val ∧ win0_0.index t 1 = 0 ∧ win0_1.index t 0 = t.val ∧ win0_1.index t 1 = 0
      ∧ win0_2.index t 0 = t.val ∧ win0_2.index t 1 = 0 := by decide +kernel

theorem iblk0_0_apply (c : Dev nD) (t : Fin cfg0.N) (r : Fin 256) (k : Fin 2048) (R : Fin 14336) (hR : R.val = t.val * 256 + r.val) :
    (iblk0 V c 0 t : Vec Ideal S256x2048 .i8) (ix2 r k) = V c main_v2 (ix2 R k) := by
  have h := index0 t
  show V c main_v2 ((win0_0.rect t).emb (ix2 r k)) = _
  congr 1
  funext a; apply Fin.ext
  rw [win0_0.rect_emb_val]
  match a with
  | ⟨0, _⟩ => show win0_0.index t 0 * 256 + r.val = R.val; rw [h.1, hR]
  | ⟨1, _⟩ => show win0_0.index t 1 * 2048 + k.val = k.val; rw [h.2.1]; omega

theorem iblk0_1_apply (c : Dev nD) (t : Fin cfg0.N) (r : Fin 256) (k : Fin 16) (R : Fin 14336) (hR : R.val = t.val * 256 + r.val) :
    (iblk0 V c 1 t : Vec Ideal S256x16 .f32) (ix2 r k) = V c main_v3 (ix2 R k) := by
  have h := index0 t
  show V c main_v3 ((win0_1.rect t).emb (ix2 r k)) = _
  congr 1
  funext a; apply Fin.ext
  rw [win0_1.rect_emb_val]
  match a with
  | ⟨0, _⟩ => show win0_1.index t 0 * 256 + r.val = R.val; rw [h.2.2.1, hR]
  | ⟨1, _⟩ => show win0_1.index t 1 * 16 + k.val = k.val; rw [h.2.2.2.1]; omega

theorem flushed0 (c : Dev nD) (t : Fin cfg0.N) :
    (dat0 V c).flushed 2 t = ((cfg0.win 2).blk t).view.read (Elt Ideal) (weights 14336 (V c main_v2) (V c main_v3)) := by
  show (cfg0.win 2).cut (grid0.coords t) ((dat0 V c).after 2 t) = _
  rw [after0_2, out0_2_apply]
  have h := index0 t
  funext y
  show weights 256 (iblk0 V c 0 t) (iblk0 V c 1 t) y = weights 14336 (V c main_v2) (V c main_v3) ((win0_2.rect t).emb y)
  have e0 : (((win0_2.rect t).emb y 0 : Fin _) : Nat) = t.val * 256 + (y 0).val := by
    rw [win0_2.rect_emb_val, h.2.2.2.2.1]; rfl
  have e1 : (((win0_2.rect t).emb y 1 : Fin _) : Nat) = (y 1).val := by
    rw [win0_2.rect_emb_val, h.2.2.2.2.2]; exact Nat.zero_add _
  unfold weights
  generalize (win0_2.rect t).emb y = z at e0 e1 ⊢
  rw [iblk0_0_apply V c t (y 0) _ (z 0) e0, iblk0_1_apply V c t (y 0) _ (z 0) e0]
  simp only [e1]

theorem cover0 (i : S14336x4096.Idx) :
    ∃ t : Fin cfg0.N, (cfg0.win 2).flush t = true ∧ i ∈ ((cfg0.win 2).blk t).view.set := by
  have h0 : (i 0 : Nat) < 14336 := (i 0).isLt
  have h1 : (i 1 : Nat) < 4096 := (i 1).isLt
  have hN : cfg0.N = 56 := N_0
  obtain ⟨t, ht⟩ : ∃ t : Fin cfg0.N, t.val = (i 0 : Nat) / 256 := ⟨⟨_, by omega⟩, rfl⟩
  refine ⟨t, flush0_2 _, ?_⟩
  show i ∈ ((View.whole main_v4).slice (win0_2.rect t)).set
  rw [View.set_slice_whole, Rect.mem_set_unit]
  have h := index0 t
  intro a
  match a with
  | ⟨0, _⟩ => show win0_2.index t 0 * 256 ≤ (i 0 : Nat) ∧ (i 0 : Nat) < win0_2.index t 0 * 256 + 256
              rw [h.2.2.2.2.1]; omega
  | ⟨1, _⟩ => show win0_2.index t 1 * 4096 ≤ (i 1 : Nat) ∧ (i 1 : Nat) < win0_2.index t 1 * 4096 + 4096
              rw [h.2.2.2.2.2]; omega

theorem final0 (c : Dev nD) : (dat0 V c).arrAt 2 cfg0.N = weights 14336 (V c main_v2) (V c main_v3) :=
  (dat0 V c).arrAt_eq_of_cover 2 _ (fun t _ => flushed0 V c t) cover0

end Cert.KernelIdeal.Val0

end
-- ==== Proof.Val.Value1.lean ====
/- What the forward product leaves: entry (r, n) of its result is the sum over k of x[r, k] · w[n, k]. -/
module

public import proofs.«01_k».proof.Proof.Frame.Region1
public import Idealize.ShloMosaic.Lib.Pipeline.Value
public import Idealize.ShloMosaic.Lib.MatmulPlain

@[expose] public section

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- Where the three blocks of grid point `t` lie. -/
theorem index1 : ∀ t : Fin grid1.N,
    win1_0.index t 0 = t.val / 14 ∧ win1_0.index t 1 = 0 ∧ win1_1.index t 0 = t.val % 14 ∧ win1_1.index t 1 = 0
      ∧ win1_2.index t 0 = t.val / 14 ∧ win1_2.index t 1 = t.val % 14 := by decide +kernel

/-- The forward product of two whole arrays. -/
def fwd (x : Vec Ideal S6144x4096 .bf16) (w : Vec Ideal S14336x4096 .bf16) : Vec Ideal S6144x14336 .bf16 :=
  fun i => ∑ k : Fin 4096, x (ix2 (i 0) k) * w (ix2 (i 1) k)

/-- The body's one product read at an entry of the block. -/
theorem k1_pay1_apply (x : Vec Ideal S1024x4096 .bf16) (w : Vec Ideal S1024x4096 .bf16) (r n : Fin 1024) :
    k1_pay1 x w (ix2 r n) = ∑ k : Fin 4096, x (ix2 r k) * w (ix2 n k) := by
  unfold k1_pay1
  rw [shapeCast_self, shapeCast_self]
  have h := Ideal.matmul_transposedRhs_apply (M := 1024) (K := 4096) (N := 1024) (φ₁ := .bf16) (φ₂ := .bf16) none x w
    (constant S1024x1024 .f32 0x00000000#32) r n
  have z : (constant S1024x1024 .f32 0x00000000#32 : FVec Ideal S1024x1024 .f32) (ix2 r n) = (0 : EReal) := Ideal.ofBits_zero_f32
  rw [z, zero_add] at h
  exact h

theorem iblk1_0_apply (c : Dev nD) (t : Fin cfg1.N) (r : Fin 1024) (k : Fin 4096) (R : Fin 6144)
    (hR : R.val = t.val / 14 * 1024 + r.val) :
    (iblk1 V c 0 t : Vec Ideal S1024x4096 .bf16) (ix2 r k) = V c main_v0 (ix2 R k) := by
  have h := index1 t
  show V c main_v0 ((win1_0.rect t).emb (ix2 r k)) = _
  congr 1
  funext a; apply Fin.ext
  rw [win1_0.rect_emb_val]
  match a with
  | ⟨0, _⟩ => show win1_0.index t 0 * 1024 + r.val = R.val; rw [h.1, hR]
  | ⟨1, _⟩ => show win1_0.index t 1 * 4096 + k.val = k.val; rw [h.2.1]; omega

theorem iblk1_1_apply (c : Dev nD) (t : Fin cfg1.N) (r : Fin 1024) (k : Fin 4096) (R : Fin 14336)
    (hR : R.val = t.val % 14 * 1024 + r.val) :
    (iblk1 V c 1 t : Vec Ideal S1024x4096 .bf16) (ix2 r k) = V c main_v4 (ix2 R k) := by
  have h := index1 t
  show V c main_v4 ((win1_1.rect t).emb (ix2 r k)) = _
  congr 1
  funext a; apply Fin.ext
  rw [win1_1.rect_emb_val]
  match a with
  | ⟨0, _⟩ => show win1_1.index t 0 * 1024 + r.val = R.val; rw [h.2.2.1, hR]
  | ⟨1, _⟩ => show win1_1.index t 1 * 4096 + k.val = k.val; rw [h.2.2.2.1]; omega

/-- What point `t` writes back is its block of the whole product. -/
theorem flushed1 (c : Dev nD) (t : Fin cfg1.N) :
    (dat1 V c).flushed 2 t = ((cfg1.win 2).blk t).view.read (Elt Ideal) (fwd (V c main_v0) (V c main_v4)) := by
  show (cfg1.win 2).cut (grid1.coords t) ((dat1 V c).after 2 t) = _
  rw [after1_2]
  unfold out1_2
  rw [View.canon_unit_zero hz2, View.ld_unit_zero hz2, View.ld_unit_zero hz2]
  have h := index1 t
  funext y
  show k1_pay1 (iblk1 V c 0 t) (iblk1 V c 1 t) y = fwd (V c main_v0) (V c main_v4) ((win1_2.rect t).emb y)
  refine (congrArg _ (eq_ix2 y)).trans ((k1_pay1_apply _ _ (y 0) (y 1)).trans ?_)
  unfold fwd
  have e0 : (((win1_2.rect t).emb y 0 : Fin _) : Nat) = t.val / 14 * 1024 + (y 0).val := by
    rw [win1_2.rect_emb_val, h.2.2.2.2.1]; rfl
  have e1 : (((win1_2.rect t).emb y 1 : Fin _) : Nat) = t.val % 14 * 1024 + (y 1).val := by
    rw [win1_2.rect_emb_val, h.2.2.2.2.2]; rfl
  refine Finset.sum_congr rfl fun k _ => ?_
  rw [iblk1_0_apply V c t (y 0) k _ e0, iblk1_1_apply V c t (y 1) k _ e1]

/-- The blocks tile the result. -/
theorem cover1 (i : S6144x14336.Idx) :
    ∃ t : Fin cfg1.N, (cfg1.win 2).flush t = true ∧ i ∈ ((cfg1.win 2).blk t).view.set := by
  have h0 : (i 0 : Nat) < 6144 := (i 0).isLt
  have h1 : (i 1 : Nat) < 14336 := (i 1).isLt
  have hN : cfg1.N = 84 := N_1
  obtain ⟨t, ht⟩ : ∃ t : Fin cfg1.N, t.val = (i 0 : Nat) / 1024 * 14 + (i 1 : Nat) / 1024 := ⟨⟨_, by omega⟩, rfl⟩
  refine ⟨t, flush1_2 _, ?_⟩
  show i ∈ ((View.whole main_v5).slice (win1_2.rect t)).set
  rw [View.set_slice_whole, Rect.mem_set_unit]
  have h := index1 t
  intro a
  match a with
  | ⟨0, _⟩ => show win1_2.index t 0 * 1024 ≤ (i 0 : Nat) ∧ (i 0 : Nat) < win1_2.index t 0 * 1024 + 1024
              rw [h.2.2.2.2.1]; omega
  | ⟨1, _⟩ => show win1_2.index t 1 * 1024 ≤ (i 1 : Nat) ∧ (i 1 : Nat) < win1_2.index t 1 * 1024 + 1024
              rw [h.2.2.2.2.2]; omega

theorem final1 (c : Dev nD) : (dat1 V c).arrAt 2 cfg1.N = fwd (V c main_v0) (V c main_v4) :=
  (dat1 V c).arrAt_eq_of_cover 2 _ (fun t _ => flushed1 V c t) cover1

end Cert.KernelIdeal.Val

end
-- ==== Proof.Val.Sums.lean ====
/- Sums used by the value proofs: blocks of a long sum, even and odd terms, and a product contracting both first axes. -/
module

public import Idealize.ShloMosaic.Lib.MatmulPlain

@[expose] public section

noncomputable section

namespace Cert.KernelIdeal.Val

open Idealize.ShloMosaic Idealize.ShloMosaic.ValueIdx
open scoped BigOperators

/-- One more block of `K` terms added to a running sum. -/
theorem sum_block {M : Type*} [AddCommMonoid M] (f : ℕ → M) (K j : ℕ) (g : Fin K → M) (hg : ∀ k : Fin K, g k = f (j * K + k.val)) :
    (∑ n ∈ Finset.range (j * K), f n) + ∑ k : Fin K, g k = ∑ n ∈ Finset.range ((j + 1) * K), f n := by
  rw [Nat.succ_mul, Finset.sum_range_add, Finset.sum_range (n := K)]
  exact congrArg _ (Finset.sum_congr rfl fun k _ => hg k)

/-- The first block. -/
theorem sum_block_zero {M : Type*} [AddCommMonoid M] (f : ℕ → M) (K : ℕ) (g : Fin K → M) (hg : ∀ k : Fin K, g k = f k.val) :
    ∑ k : Fin K, g k = ∑ n ∈ Finset.range ((0 + 1) * K), f n := by
  rw [Nat.zero_add, Nat.one_mul, Finset.sum_range (n := K)]
  exact Finset.sum_congr rfl fun k _ => hg k

/-- A sum over `2 K` terms is the sum of its even terms plus the sum of its odd ones. -/
theorem sum_even_odd {M : Type*} [AddCommMonoid M] (K N : ℕ) (hN : N = 2 * K) (f : Fin N → M) :
    ∑ n : Fin N, f n = (∑ k : Fin K, f ⟨2 * k.val, by omega⟩) + ∑ k : Fin K, f ⟨2 * k.val + 1, by omega⟩ := by
  subst hN
  rw [← Finset.sum_add_distrib]
  have e : ∀ (K : ℕ) (g : ℕ → M), ∑ n ∈ Finset.range (2 * K), g n = ∑ k ∈ Finset.range K, (g (2 * k) + g (2 * k + 1)) := by
    intro K g
    induction K with
    | zero => rfl
    | succ K ih => rw [Finset.sum_range_succ, ← ih, show 2 * (K + 1) = 2 * K + 1 + 1 by omega, Finset.sum_range_succ, Finset.sum_range_succ, add_assoc]
  have h := e K (fun n => if h : n < 2 * K then f ⟨n, h⟩ else 0)
  rw [Finset.sum_range, Finset.sum_range] at h
  refine ((Finset.sum_congr rfl fun n _ => ?_).trans h).trans (Finset.sum_congr rfl fun k _ => ?_)
  · rw [dif_pos n.isLt]
  · have := k.isLt
    rw [dif_pos (by omega), dif_pos (by omega)]

/-- The dimension numbers of a product contracting the first axis of both operands: `[K, M]ᵀ × [K, N]`. -/
def dimsTL (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- `[K, M]ᵀ × [K, N]` read at (r, c): the accumulator plus the sum over k of lhs[k, r] · rhs[k, c]. -/
theorem matmul_dimsTL_apply {K M N : ℕ} (wf : DotDims.WF ⟨2, ![K, M]⟩ ⟨2, ![K, N]⟩ ⟨2, ![M, N]⟩ [0] [0] [1] [1] [] []) {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (dimsTL K M N wf) prec lhs rhs acc (ix2 r c) = acc (ix2 r c) + ∑ k : Fin K, lhs (ix2 k r) * rhs (ix2 k c) := by
  have hr : (dimsTL K M N wf).contr.rank = 1 := rfl
  have hs : (dimsTL K M N wf).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (dimsTL K M N wf).lhsIdx (ix2 r c) ((contrEquiv1 _ K hr hs).symm k) = ix2 k r := by
    funext a; apply Fin.ext
    match a with
    | ⟨0, _⟩ => exact hk
    | ⟨1, _⟩ => rfl
  have er : (dimsTL K M N wf).rhsIdx (ix2 r c) ((contrEquiv1 _ K hr hs).symm k) = ix2 k c := by
    funext a; apply Fin.ext
    match a with
    | ⟨0, _⟩ => exact hk
    | ⟨1, _⟩ => rfl
  rw [el, er]

end Cert.KernelIdeal.Val

end
-- ==== Proof.Val.Value2.lean ====
/- What the input-gradient product leaves: entry (r, k) of its result is the sum over n of dy[r, n] · w[n, k], which the
   kernel adds up in seven runs of 2048 terms. -/
module

public import proofs.«01_k».proof.Proof.Frame.Region2
public import proofs.«01_k».proof.Proof.Val.Sums
public import Idealize.ShloMosaic.Lib.Pipeline.Value

@[expose] public section

set_option maxRecDepth 16384

noncomputable section

namespace Cert.KernelIdeal.Val2

open Idealize.ShloMosaic Idealize.ShloMosaic.TcCoe Idealize.SL.Sem Idealize.ShloMosaic.ValueIdx
open Idealize.ShloMosaic.Tactic
open Idealize.ShloMosaic.Pipeline (Dat)
open Cert.KernelIdeal Cert.KernelIdeal.Gen Cert.KernelIdeal.Val
open scoped BigOperators

theorem hz2 : (![0, 0] : Fin 2 → Nat) = fun _ => 0 := funext fun a => by fin_cases a <;> rfl

/-! ## The three cases of the body -/

section Cases
variable {F : FTy → Type} [FloatOps F]
variable (c : Dev nD) (i : grid2.Coords) (a3 : Memref sig .tc .vmem S1024x2048 .bf16) (h3 : a3.IsWhole)
    (a4 : Memref sig .tc .vmem S2048x2048 .bf16) (h4 : a4.IsWhole) (a5 : Memref sig .tc .vmem S1024x2048 .bf16) (h5 : a5.IsWhole)
    (a6 : Memref sig .tc .vmem S1024x2048 .f32) (h6 : a6.IsWhole)
    (x : Vec F S1024x2048 .bf16) (w : Vec F S2048x2048 .bf16) (acc : Vec F S1024x2048 .f32)

/-- At the first step of a run the accumulator is left at the zero block plus the step's product. -/
theorem sout_A (hc0 hc1) : sout2_A_0 c i a3 h3 a4 h4 a5 h5 a6 h6 hc0 hc1 x w = k2_pay2 k2_pay1 x w := by
  unfold sout2_A_0
  rw [View.read_writes_eq_canon _ _ _ (scover2_A_0 c i a3 h3 a4 h4 a5 h5 a6 h6 hc0 hc1 x w)]
  unfold kernelRun2_A
  dsimp only
  sl_unfold_words
  rw [View.canon_cons_unit_zero (S := S1024x2048) hz2, View.readCov_unit_zero (S := S1024x2048) _ hz2]
  simp only [View.readAt_eq_ld, h3.read_unread, h4.read_unread, View.ld_unit_zero (S := S1024x2048) hz2,
    View.ld_unit_zero (S := S2048x2048) hz2]

/-- At a later step it is left at what it held plus the step's product. -/
theorem sout_B (hc0 hc1) : sout2_B_0 c i a3 h3 a4 h4 a5 h5 a6 h6 hc0 hc1 x w acc = k2_pay2 acc x w := by
  unfold sout2_B_0
  rw [View.read_writes_eq_canon _ _ _ (scover2_B_0 c i a3 h3 a4 h4 a5 h5 a6 h6 hc0 hc1 x w acc)]
  unfold kernelRun2_B
  dsimp only
  rw [View.canon_unit_zero (S := S1024x2048) hz2]
  simp only [View.readAt_eq_ld, h3.read_unread, h4.read_unread, h6.read_unread, View.ld_unit_zero (S := S1024x2048) hz2,
    View.ld_unit_zero (S := S2048x2048) hz2]

/-- At the last step of a run the same, and the rounded accumulator is the step's output block. -/
theorem sout_C (hc0 hc1) : sout2_C_0 c i a3 h3 a4 h4 a5 h5 a6 h6 hc0 hc1 x w acc = k2_pay2 acc x w := by
  unfold sout2_C_0
  rw [View.read_writes_eq_canon _ _ _ (scover2_C_0 c i a3 h3 a4 h4 a5 h5 a6 h6 hc0 hc1 x w acc)]
  unfold kernelRun2_C
  dsimp only
  sl_unfold_words
  rw [View.canon_unit_zero (S := S1024x2048) hz2]
  simp only [View.readAt_eq_ld, h3.read_unread, h4.read_unread, h6.read_unread, View.ld_unit_zero (S := S1024x2048) hz2,
    View.ld_unit_zero (S := S2048x2048) hz2]

theorem out_C (hc0 hc1) : out2_C_2 c i a3 h3 a4 h4 a5 h5 a6 h6 hc0 hc1 x w acc = k2_pay3 (k2_pay2 acc x w) := by
  unfold out2_C_2
  rw [View.read_writes_eq_canon _ _ _ (cover2_C_2 c i a3 h3 a4 h4 a5 h5 a6 h6 hc0 hc1 x w acc)]
  unfold kernelRun2_C
  dsimp only
  sl_unfold_words
  rw [View.canon_unit_zero (S := S1024x2048) hz2, View.readCov_unit_zero (S := S1024x2048) _ hz2]
  simp only [View.readAt_eq_ld, h3.read_unread, h4.read_unread, h6.read_unread, View.ld_unit_zero (S := S1024x2048) hz2,
    View.ld_unit_zero (S := S2048x2048) hz2]

end Cases

/-! ## The accumulated sum -/

variable (V : (c : Dev nD) → (b : Ref sig .tc) → Buf (Elt Ideal) ((c : Thread nD τ).loc b))

/-- Where the blocks of grid point `t` lie. -/
theorem index2 : ∀ t : Fin grid2.N,
    win2_0.index t 0 = t.val / 14 ∧ win2_0.index t 1 = t.val % 7 ∧ win2_1.index t 0 = t.val % 7 ∧ win2_1.index t 1 = t.val / 7 % 2
      ∧ win2_2.index t 0 = t.val / 14 ∧ win2_2.index t 1 = t.val / 7 % 2 := by decide +kernel

/-- The product of two whole arrays. -/
def prod (g : Vec Ideal S6144x14336 .bf16) (w : Vec Ideal S14336x4096 .bf16) : Vec Ideal S6144x4096 .bf16 :=
  fun i => ∑ n : Fin 14336, g (ix2 (i 0) n) * w (ix2 n (i 1))

/-- The `n`-th term of entry (R, C) of the product (zero past the end). -/
def term (g : Vec Ideal S6144x14336 .bf16) (w : Vec Ideal S14336x4096 .bf16) (R : Fin 6144) (C : Fin 4096) (n : ℕ) : EReal :=
  if h : n < 14336 then g (ix2 R ⟨n, h⟩) * w (ix2 ⟨n, h⟩ C) else 0

theorem k2_pay2_apply (acc : Vec Ideal S1024x2048 .f32) (x : Vec Ideal S1024x2048 .bf16) (w : Vec Ideal S2048x2048 .bf16) (r : Fin 1024) (n : Fin 2048) :
    k2_pay2 acc x w (ix2 r n) = acc (ix2 r n) + ∑ k : Fin 2048, x (ix2 r k) * w (ix2 k n) := by
  unfold k2_pay2
  rw [shapeCast_self, shapeCast_self, shapeCast_self]
  have h := Ideal.matmul_plain_apply (M := 1024) (K := 2048) (N := 2048) (φ₁ := .bf16) (φ₂ := .bf16) none x w
    (constant S1024x2048 .f32 0x00000000#32) r n
  have z : (constant S1024x2048 .f32 0x00000000#32 : FVec Ideal S1024x2048 .f32) (ix2 r n) = (0 : EReal) := Ideal.ofBits_zero_f32
  rw [z, zero_add] at h
  exact congrArg (acc (ix2 r n) + ·) h

theorem k2_pay1_apply (y : S1024x2048.Idx) : (k2_pay1 (F := Ideal)) y = (0 : EReal) := by
  unfold k2_pay1
  rw [shapeCast_self]
  exact Ideal.ofBits_zero_f32

theorem iblk2_0_apply (c : Dev nD) (t : Fin cfg2.N) (r : Fin 1024) (k : Fin 2048) (R : Fin 6144) (K : Fin 14336)
    (hR : R.val = t.val / 14 * 1024 + r.val) (hK : K.val = t.val % 7 * 2048 + k.val) :
    (iblk2 V c 0 t : Vec Ideal S1024x2048 .bf16) (ix2 r k) = V c main_v1 (ix2 R K) := by
  have h := index2 t
  show V c main_v1 ((win2_0.rect t).emb (ix2 r k)) = _
  congr 1
  funext a; apply Fin.ext
  rw [win2_0.rect_emb_val]
  match a with
  | ⟨0, _⟩ => show win2_0.index t 0 * 1024 + r.val = R.val; rw [h.1, hR]
  | ⟨1, _⟩ => show win2_0.index t 1 * 2048 + k.val = K.val; rw [h.2.1, hK]

theorem iblk2_1_apply (c : Dev nD) (t : Fin cfg2.N) (k : Fin 2048) (n : Fin 2048) (K : Fin 14336) (C : Fin 4096)
    (hK : K.val = t.val % 7 * 2048 + k.val) (hC : C.val = t.val / 7 % 2 * 2048 + n.val) :
    (iblk2 V c 1 t : Vec Ideal S2048x2048 .bf16) (ix2 k n) = V c main_v4 (ix2 K C) := by
  have h := index2 t
  show V c main_v4 ((win2_1.rect t).emb (ix2 k n)) = _
  congr 1
  funext a; apply Fin.ext
  rw [win2_1.rect_emb_val]
  match a with
  | ⟨0, _⟩ => show win2_1.index t 0 * 2048 + k.val = K.val; rw [h.2.2.1, hK]
  | ⟨1, _⟩ => show win2_1.index t 1 * 2048 + n.val = C.val; rw [h.2.2.2.1, hC]

/-- The accumulator after a step, read at an entry: the terms of the steps of its run so far. -/
theorem step_apply (c : Dev nD) (t : Fin cfg2.N) (r : Fin 1024) (n : Fin 2048) (R : Fin 6144) (C : Fin 4096)
    (hR : R.val = t.val / 14 * 1024 + r.val) (hC : C.val = t.val / 7 % 2 * 2048 + n.val) (k : Fin 2048) :
    HMul.hMul (α := EReal) (β := EReal) ((iblk2 V c 0 t : Vec Ideal S1024x2048 .bf16) (ix2 r k)) ((iblk2 V c 1 t : Vec Ideal S2048x2048 .bf16) (ix2 k n))
      = term (V c main_v1) (V c main_v4) R C (t.val % 7 * 2048 + k.val) := by
  have hk := k.isLt
  have hlt : t.val % 7 * 2048 + k.val < 14336 := by omega
  rw [iblk2_0_apply V c t r k R ⟨_, hlt⟩ hR rfl, iblk2_1_apply V c t k n ⟨_, hlt⟩ C rfl hC]
  unfold term
  rw [dif_pos hlt]

theorem acc_A (c : Dev nD) (t : Fin cfg2.N) (h0 : t.val % 7 = 0) :
    (outsAt2 V c t.val t.isLt).2 = k2_pay2 k2_pay1 (iblk2 V c 0 t) (iblk2 V c 1 t) := by
  rw [outsAt2_A V c t h0 (by omega), sout_A]

theorem acc_BC (c : Dev nD) (t : Fin cfg2.N) (h0 : ¬t.val % 7 = 0) :
    (outsAt2 V c t.val t.isLt).2
      = k2_pay2 (outsAt2 V c (t.val - 1) (Nat.lt_of_le_of_lt (Nat.sub_le _ _) t.isLt)).2 (iblk2 V c 0 t) (iblk2 V c 1 t) := by
  by_cases h1 : t.val % 7 = 6
  · rw [outsAt2_C V c t h0 h1, sout_C]
  · rw [outsAt2_B V c t h0 h1, sout_B]

theorem acc_apply (c : Dev nD) (n : ℕ) : ∀ (hn : n < cfg2.N) (r : Fin 1024) (q : Fin 2048) (R : Fin 6144) (C : Fin 4096)
    (hR : R.val = n / 14 * 1024 + r.val) (hC : C.val = n / 7 % 2 * 2048 + q.val),
    (outsAt2 V c n hn).2 (ix2 r q) = ∑ k ∈ Finset.range ((n % 7 + 1) * 2048), term (V c main_v1) (V c main_v4) R C k := by
  induction n with
  | zero =>
    intro hn r q R C hR hC
    refine (congrFun (acc_A V c ⟨0, hn⟩ rfl) _).trans ?_
    rw [k2_pay2_apply, k2_pay1_apply, zero_add]
    exact sum_block_zero _ _ _ fun k => (step_apply V c ⟨0, hn⟩ r q R C hR hC k).trans (by simp)
  | succ n ih =>
    intro hn r q R C hR hC
    by_cases h0 : (n + 1) % 7 = 0
    · refine (congrFun (acc_A V c ⟨n + 1, hn⟩ h0) _).trans ?_
      rw [k2_pay2_apply, k2_pay1_apply, zero_add, h0]
      exact sum_block_zero _ _ _ fun k => (step_apply V c ⟨n + 1, hn⟩ r q R C hR hC k).trans (by dsimp only; rw [h0]; simp)
    · have hm : (n + 1) % 7 = n % 7 + 1 := by omega
      have ihn := ih (Nat.lt_of_succ_lt hn) r q R C (by rw [hR]; omega) (by rw [hC]; omega)
      have st := sum_block (term (V c main_v1) (V c main_v4) R C) 2048 (n % 7 + 1) _
        (fun k => (step_apply V c ⟨n + 1, hn⟩ r q R C hR hC k).trans (by dsimp only; rw [hm]))
      refine (congrFun (acc_BC V c ⟨n + 1, hn⟩ h0) _).trans ?_
      rw [k2_pay2_apply, hm, ← st, ← ihn]; rfl

theorem k2_pay3_apply (v : Vec Ideal S1024x2048 .f32) (y : S1024x2048.Idx) : k2_pay3 v y = v y := rfl

theorem out_last (c : Dev nD) (t : Fin cfg2.N) (h1 : t.val % 7 = 6) :
    (outsAt2 V c t.val t.isLt).1 = k2_pay3 (outsAt2 V c t.val t.isLt).2 := by
  rw [acc_BC V c t (by omega), outsAt2_C V c t (by omega) h1, out_C]

/-- What the last step of a run writes back is its block of the whole product. -/
theorem flushed2 (c : Dev nD) (t : Fin cfg2.N) (hf : (cfg2.win 2).flush t = true) :
    (dat2 V c).flushed 2 t = ((cfg2.win 2).blk t).view.read (Elt Ideal) (prod (V c main_v1) (V c main_v4)) := by
  have h6 : t.val % 7 = 6 := (flush2_2 t).mp hf
  have h0 : ¬t.val % 7 = 0 := by omega
  show (cfg2.win 2).cut (grid2.coords t) ((dat2 V c).after 2 t) = _
  rw [after2_2]
  have h := index2 t
  rw [out_last V c t h6]
  have hacc := acc_apply V c t.val t.isLt
  generalize (outsAt2 V c t.val t.isLt).2 = v at hacc ⊢
  funext y
  show k2_pay3 v y = prod (V c main_v1) (V c main_v4) ((win2_2.rect t).emb y)
  rw [k2_pay3_apply]
  have e0 : (((win2_2.rect t).emb y 0 : Fin _) : Nat) = t.val / 14 * 1024 + (y 0).val := by
    rw [win2_2.rect_emb_val, h.2.2.2.2.1]; rfl
  have e1 : (((win2_2.rect t).emb y 1 : Fin _) : Nat) = t.val / 7 % 2 * 2048 + (y 1).val := by
    rw [win2_2.rect_emb_val, h.2.2.2.2.2]; rfl
  refine (congrArg _ (eq_ix2 y)).trans ((hacc (y 0) (y 1) _ _ e0 e1).trans ?_)
  rw [h6, Finset.sum_range]
  unfold prod
  refine Finset.sum_congr rfl fun n _ => ?_
  unfold term
  exact dif_pos n.isLt

/-- The blocks tile the result. -/
theorem cover2 (i : S6144x4096.Idx) :
    ∃ t : Fin cfg2.N, (cfg2.win 2).flush t = true ∧ i ∈ ((cfg2.win 2).blk t).view.set := by
  have h0 : (i 0 : Nat) < 6144 := (i 0).isLt
  have h1 : (i 1 : Nat) < 4096 := (i 1).isLt
  have hN : cfg2.N = 84 := N_2
  obtain ⟨t, ht⟩ : ∃ t : Fin cfg2.N, t.val = (i 0 : Nat) / 1024 * 14 + (i 1 : Nat) / 2048 * 7 + 6 := ⟨⟨_, by omega⟩, rfl⟩
  refine ⟨t, (flush2_2 t).mpr (by omega), ?_⟩
  show i ∈ ((View.whole main_v7).slice (win2_2.rect t)).set
  rw [View.set_slice_whole, Rect.mem_set_unit]
  have h := index2 t
  intro a
  match a with
  | ⟨0, _⟩ => show win2_2.index t 0 * 1024 ≤ (i 0 : Nat) ∧ (i 0 : Nat) < win2_2.index t 0 * 1024 + 1024
              rw [h.2.2.2.2.1]; omega
  | ⟨1, _⟩ => show win2_2.index t 1 * 2048 ≤ (i 1 : Nat) ∧ (i 1 : Nat) < win2_2.index t 1 * 2048 + 2048
              rw [h.2.2.2.2.2]; omega

theorem final2 (c : Dev nD) : (dat2 V c).arrAt 2 cfg2.N = prod (V c main_v1) (V c main_v4) :=
  (dat2 V c).arrAt_eq_of_cover 2 _ (flushed2 V c) cover2

end Cert.KernelIdeal.Val2

end
-- ==== Proof.Val.Quant.lean ====
/- The quantiser on one block of 256 values, and what the kernel's block code computes in its terms. -/
module

public import proofs.«01_k».proof.Proof.Gen.KernelIdeal.Skeleton
public import proofs.«01_k».proof.Proof.Val.Bytes
public import Idealize.ShloMosaic.Lib.Pipeline.Value
public import Idealize.ShloMosaic.PureOps.Ideal.Laws
public import Idealize.ShloMosaic.Lib.Pointwise.ElementwiseCore

@[expose] public section

set_option maxRecDepth 16384

noncomputable section

namespace Cert.KernelIdeal.Val3

open Idealize.ShloMosaic Idealize.ShloMosaic.TcCoe Idealize.ShloMosaic.ValueIdx
open Cert.KernelIdeal Cert.KernelIdeal.Gen Cert.KernelIdeal.Val
open scoped BigOperators

/-! ## The quantiser -/

/-- The largest magnitude of a block. -/
def amax (v : Fin 256 → EReal) : EReal :=
  (Finset.univ : Finset (Fin 256)).fold max (FloatOps.ofBits (F := Ideal) .f32 0xFF800000#32)
    (fun k => FloatOps.absf (F := Ideal) (φ := .f32) (v k))

/-- The scale of a block: its largest magnitude over 7, or 1 where that is zero. -/
def scale (v : Fin 256 → EReal) : EReal :=
  Scalar.select (FloatOps.cmpf (F := Ideal) (φ := .f32) .oeq (amax v) (FloatOps.ofBits (F := Ideal) .f32 0x00000000#32))
    (FloatOps.ofBits (F := Ideal) .f32 0x3F800000#32)
    (FloatOps.divf (F := Ideal) (φ := .f32) (amax v) (FloatOps.ofBits (F := Ideal) .f32 0x40E00000#32))

/-- The code of value `k` of a block: the value over the scale, rounded to an even integer and clipped to ±7. -/
def code (v : Fin 256 → EReal) (k : Fin 256) : BitVec 32 :=
  FloatOps.fptosi (F := Ideal) (φ := .f32) 32
    (FloatOps.minimumf (F := Ideal) (φ := .f32) (FloatOps.ofBits (F := Ideal) .f32 0x40E00000#32)
      (FloatOps.maximumf (F := Ideal) (φ := .f32) (FloatOps.ofBits (F := Ideal) .f32 0xC0E00000#32)
        (FloatOps.roundeven (F := Ideal) (φ := .f32) (FloatOps.divf (F := Ideal) (φ := .f32) (v k) (scale v)))))

/-- Two codes in one byte, the first in the low nibble. -/
def byte (lo hi : BitVec 32) : BitVec 8 := ((lo &&& 15#32) ||| ((hi &&& 15#32) <<< 4)).setWidth 8

/-- Byte `c` of a block: codes `2c` and `2c + 1`. -/
def packed (v : Fin 256 → EReal) (c : Fin 128) : BitVec 8 :=
  byte (code v ⟨2 * c.val, by omega⟩) (code v ⟨2 * c.val + 1, by omega⟩)

/-! ## One block of the kernel -/

section Block
variable {F : FTy → Type} [FloatOps F]

/-- The packed codes of a block of 256 columns. -/
def packB (a : Vec F S1024x256 .f32) (w : Elt F .f32) : IVec S1024x128 8 :=
  k3_pay8 (k3_pay6 a w) (iota .tc S256x128 32 [1] iota_S256x128_d1_w32) k3_pay7

end Block

/-- Row `r` of a block over the divisor. -/
def quot (a : Vec Ideal S1024x256 .f32) (w : Elt Ideal .f32) (r : Fin 1024) : Fin 256 → EReal :=
  fun k => FloatOps.divf (F := Ideal) (φ := .f32) (a (ix2 r k)) w

theorem pay4_apply (a : Vec Ideal S1024x256 .f32) (w : Elt Ideal .f32) (r : Fin 1024) (k : Fin 256) :
    k3_pay4 a w (ix2 r k) = quot a w r k := rfl

theorem lift_row (r : Fin 1024) (k : Fin 256) :
    Shape.Reduces.lift reduces_S1024x256_S1024 (ix1 r) k = ix2 r k := by
  funext a
  match a with
  | ⟨0, _⟩ => rfl
  | ⟨1, _⟩ => rfl

theorem amax_apply (a : Vec Ideal S1024x256 .f32) (w : Elt Ideal .f32) (r : Fin 1024) (h hφ hacc) :
    multiReduction .maximumf [1] S1024 (absf (k3_pay4 a w)) 0xFF800000#32 h hφ hacc (ix1 r) = amax (quot a w r) := by
  rw [Ideal.multiReduction_maximumf_single]
  unfold amax
  congr 1
  funext k
  exact congrArg (fun i => FloatOps.absf (F := Ideal) (φ := .f32) (k3_pay4 a w i)) (lift_row r k)

/-- The scale column of a block. -/
theorem pay5_apply (a : Vec Ideal S1024x256 .f32) (w : Elt Ideal .f32) (r : Fin 1024) :
    k3_pay5 a w (ix2 r 0) = scale (quot a w r) := by
  have e : shapeCast S1024x1 (multiReduction .maximumf [1] S1024 (absf (k3_pay4 a w)) 0xFF800000#32 reduces_S1024x256_S1024 (.inl rfl) rfl)
      shapeCasts_S1024_S1024x1 (ix2 r 0) = amax (quot a w r) := by
    refine (shapeCast_apply _ _ _ (ix1 r) ?_).trans (amax_apply a w r _ _ _)
    rw [Shape.rowMajor_val_one, Shape.rowMajor_val_two]
    show r.val = r.val * 1 + 0
    omega
  unfold k3_pay5 scale
  show Scalar.select (FloatOps.cmpf .oeq (shapeCast S1024x1 _ shapeCasts_S1024_S1024x1 (ix2 r 0)) _) _
    (FloatOps.divf (shapeCast S1024x1 _ shapeCasts_S1024_S1024x1 (ix2 r 0)) _) = _
  rw [e]
  rfl

/-- The codes of a block. -/
def codesB (a : Vec Ideal S1024x256 .f32) (w : Elt Ideal .f32) : IVec S1024x256 32 :=
  fptosi 32 (minimumf (broadcast S1024x256 (FloatOps.ofBits (F := Ideal) .f32 0x40E00000#32))
    (maximumf (broadcast S1024x256 (FloatOps.ofBits (F := Ideal) .f32 0xC0E00000#32))
      (roundeven (divf (k3_pay4 a w) (broadcastTo S1024x256 (k3_pay5 a w) broadcasts_S1024x1_S1024x256)))))

theorem codesB_apply (a : Vec Ideal S1024x256 .f32) (w : Elt Ideal .f32) (r : Fin 1024) (k : Fin 256) :
    codesB a w (ix2 r k) = code (quot a w r) k := by
  have e : broadcastTo S1024x256 (k3_pay5 a w) broadcasts_S1024x1_S1024x256 (ix2 r k) = scale (quot a w r) :=
    (broadcastTo_apply _ _ (ix2 r k) (ix2 r 0) (by
      intro a; match a with
      | ⟨0, _⟩ => rfl
      | ⟨1, _⟩ => rfl)).trans (pay5_apply a w r)
  unfold codesB code
  show FloatOps.fptosi 32 (FloatOps.minimumf _ (FloatOps.maximumf _ (FloatOps.roundeven (FloatOps.divf (k3_pay4 a w (ix2 r k))
    (broadcastTo S1024x256 (k3_pay5 a w) broadcasts_S1024x1_S1024x256 (ix2 r k)))))) = _
  rw [e]
  rfl

/-- The bytes of a block before the lanes are regrouped: code `m` with code `128 + m`. -/
def halves (q : IVec S1024x256 32) : IVec S1024x128 8 :=
  trunci 8 (ori (andi (extractStridedSlice S1024x128 ![0, 0] q slices_S1024x256_o0_0_S1024x128) (broadcast S1024x128 15#32))
    (shli (andi (extractStridedSlice S1024x128 ![0, 128] q slices_S1024x256_o0_128_S1024x128) (broadcast S1024x128 15#32))
      (broadcast S1024x128 4#32))) natLt_8_32

theorem halves_apply (q : IVec S1024x256 32) (p : Fin 1024) (m : Fin 128) :
    halves q (ix2 p m) = byte (q (ix2 p ⟨m.val, by omega⟩)) (q (ix2 p ⟨128 + m.val, by omega⟩)) := by
  have e0 : extractStridedSlice S1024x128 ![0, 0] q slices_S1024x256_o0_0_S1024x128 (ix2 p m) = q (ix2 p ⟨m.val, by omega⟩) := by
    refine extractStridedSlice_apply _ _ _ _ _ fun a => ?_
    match a with
    | ⟨0, _⟩ => show p.val = 0 + p.val; omega
    | ⟨1, _⟩ => show m.val = 0 + m.val; omega
  have e1 : extractStridedSlice S1024x128 ![0, 128] q slices_S1024x256_o0_128_S1024x128 (ix2 p m) = q (ix2 p ⟨128 + m.val, by omega⟩) := by
    refine extractStridedSlice_apply _ _ _ _ _ fun a => ?_
    match a with
    | ⟨0, _⟩ => show p.val = 0 + p.val; omega
    | ⟨1, _⟩ => show 128 + m.val = 128 + m.val; omega
  unfold halves byte
  show ((extractStridedSlice S1024x128 ![0, 0] q slices_S1024x256_o0_0_S1024x128 (ix2 p m) &&& 15#32)
    ||| IntOp.shli .vector (extractStridedSlice S1024x128 ![0, 128] q slices_S1024x256_o0_128_S1024x128 (ix2 p m) &&& 15#32) 4#32).setWidth 8 = _
  rw [e0, e1]
  rfl

/-- Either nibble of a byte of two codes, at eight bits. -/
theorem byte_lo (lo hi : BitVec 32) : (byte lo hi >>> 0) &&& 15#8 = lo.setWidth 8 &&& 15#8 := by
  unfold byte
  apply BitVec.eq_of_getLsbD_eq; intro i hi'
  have m : ∀ i : Fin 8, (15#8).getLsbD i.val = decide (i.val < 4) := by decide
  have m32 : ∀ i : Fin 8, (15#32).getLsbD i.val = decide (i.val < 4) := by decide
  have a := m ⟨i, hi'⟩; have b := m32 ⟨i, hi'⟩
  simp only at a b
  simp only [BitVec.getLsbD_and, BitVec.getLsbD_ushiftRight, BitVec.getLsbD_setWidth, BitVec.getLsbD_or, BitVec.getLsbD_shiftLeft, a, b, Nat.zero_add]
  by_cases h : i < 4 <;> simp [h, hi']

theorem byte_hi (lo hi : BitVec 32) : (byte lo hi >>> 4) &&& 15#8 = hi.setWidth 8 &&& 15#8 := by
  unfold byte
  apply BitVec.eq_of_getLsbD_eq; intro i hi'
  have m : ∀ i : Fin 8, (15#8).getLsbD i.val = decide (i.val < 4) := by decide
  have m32 : ∀ i : Fin 8, (15#32).getLsbD i.val = decide (i.val < 4) := by decide
  have m4 : ∀ i : Fin 8, (15#32).getLsbD (4 + i.val) = false := by decide
  have a := m ⟨i, hi'⟩; have b := m32 ⟨i, hi'⟩; have d := m4 ⟨i, hi'⟩
  simp only at a b d
  simp only [BitVec.getLsbD_and, BitVec.getLsbD_ushiftRight, BitVec.getLsbD_setWidth, BitVec.getLsbD_or, BitVec.getLsbD_shiftLeft, a, b, d]
  by_cases h : i < 4
  · have : 4 + i < 8 := by omega
    have : 4 + i < 32 := by omega
    simp [*]
  · simp [h]

/-- Two low nibbles put in one byte are the byte of the two codes. -/
theorem join (lo hi : BitVec 32) : (lo.setWidth 8 &&& 15#8) ||| ((hi.setWidth 8 &&& 15#8) <<< 4) = byte lo hi := by
  unfold byte
  apply BitVec.eq_of_getLsbD_eq; intro i hi'
  have m : ∀ i : Fin 8, (15#8).getLsbD i.val = (15#32).getLsbD i.val := by decide
  have m4 : ∀ i : Fin 8, (15#8).getLsbD (i.val - 4) = (15#32).getLsbD (i.val - 4) := by decide
  have a := m ⟨i, hi'⟩; have b := m4 ⟨i, hi'⟩
  simp only at a b
  have h8 : i - 4 < 8 := by omega
  have h32 : i < 32 := by omega
  simp only [BitVec.getLsbD_and, BitVec.getLsbD_setWidth, BitVec.getLsbD_or, BitVec.getLsbD_shiftLeft, a, b, hi', h8, h32, decide_true, Bool.true_and]

/-- Twice the lane number, within a row of 128 lanes. -/
def even : IVec S256x128 32 :=
  andi (muli (iota .tc S256x128 32 [1] iota_S256x128_d1_w32) (broadcast S256x128 2#32)) (broadcast S256x128 127#32)

theorem pay7_eq : k3_pay7 = select (cmpi .slt even (broadcast S256x128 0#32)) (addi even (broadcast S256x128 128#32)) even := by
  unfold k3_pay7 even
  simp only [shapeCast_shapeCast]

/-- The packed codes of a block, read at an entry. -/
theorem packB_apply (a : Vec Ideal S1024x256 .f32) (w : Elt Ideal .f32) (p : Fin 1024) (l : Fin 128) :
    packB a w (ix2 p l) = packed (quot a w p) l := by
  have hp := p.isLt
  obtain ⟨b, hb⟩ : ∃ b : Fin 256, b.val = p.val / 4 := ⟨⟨p.val / 4, by omega⟩, rfl⟩
  -- the word block, the lane numbers and the three lane-wise index computations
  have hw : k3_pay6 a w = bitcast S256x128 32 (halves (codesB a w)) bitcasts_S1024x128_w8_S256x128_w32 := rfl
  have hio : (iota .tc S256x128 32 [1] iota_S256x128_d1_w32 : IVec S256x128 32) (ix2 b l) = BitVec.ofNat 32 l.val := by
    rw [iota_single_apply]
  obtain ⟨m0, h0⟩ : ∃ m : Fin 128, m.val = 2 * l.val % 128 := ⟨⟨2 * l.val % 128, by omega⟩, rfl⟩
  obtain ⟨m1, h1⟩ : ∃ m : Fin 128, m.val = 2 * l.val % 128 + 1 := ⟨⟨2 * l.val % 128 + 1, by omega⟩, rfl⟩
  have word : ∀ (W : IVec S256x128 32) (idx : IVec S256x128 32) (m : Fin 128), (idx (ix2 b l)).toNat % 128 = m.val →
      dynamicGather (1 : Fin S256x128.rank) W idx (ix2 b l) = W (ix2 b m) := by
    intro W idx m hm
    rw [dynamicGather_apply]
    refine congrArg W (funext fun x => ?_)
    match x with
    | ⟨0, _⟩ => rfl
    | ⟨1, _⟩ => exact Fin.ext hm
  have f0 : ∀ l : Fin 128, (Scalar.select (IntOp.cmpi .slt (IntOp.andi (IntOp.muli (BitVec.ofNat 32 l.val) 2#32) 127#32) 0#32)
      (IntOp.addi (IntOp.andi (IntOp.muli (BitVec.ofNat 32 l.val) 2#32) 127#32) 128#32)
      (IntOp.andi (IntOp.muli (BitVec.ofNat 32 l.val) 2#32) 127#32)).toNat % 128 = 2 * l.val % 128 := by decide +kernel
  have f1 : ∀ l : Fin 128, (Scalar.select (IntOp.cmpi .slt (IntOp.addi (IntOp.andi (IntOp.muli (BitVec.ofNat 32 l.val) 2#32) 127#32) 1#32) 0#32)
      (IntOp.addi (IntOp.addi (IntOp.andi (IntOp.muli (BitVec.ofNat 32 l.val) 2#32) 127#32) 1#32) 128#32)
      (IntOp.addi (IntOp.andi (IntOp.muli (BitVec.ofNat 32 l.val) 2#32) 127#32) 1#32)).toNat % 128 = 2 * l.val % 128 + 1 := by decide +kernel
  have f2 : ∀ l : Fin 128, (Scalar.select (IntOp.cmpi .sge (BitVec.ofNat 32 l.val) 64#32) 4#32 0#32).toNat = 4 * (l.val / 64) := by decide +kernel
  unfold packB
  rw [hw, pay7_eq]
  unfold k3_pay8
  rw [shapeCast_shapeCast]
  generalize hW : bitcast S256x128 32 (halves (codesB a w)) bitcasts_S1024x128_w8_S256x128_w32 = W
  refine (bitcast_bytes (R := 1024) (r := 256) (n := 128) _ bitcasts_S256x128_w32_S1024x128_w8 p l b hb).trans ?_
  have hs : ∀ V : BitVec 32, IntOp.shrui .vector V
      (Scalar.select (IntOp.cmpi .sge (iota .tc S256x128 32 [1] iota_S256x128_d1_w32 (ix2 b l)) 64#32) 4#32 0#32) = V >>> (4 * (l.val / 64)) := by
    intro V
    rw [hio]
    unfold IntOp.shrui
    rw [if_pos (by rw [f2]; omega)]
    show V >>> (Scalar.select _ _ _ : BitVec 32).toNat = _
    rw [f2]
  refine Eq.trans (b := byteAt (((W (ix2 b m0) >>> (4 * (l.val / 64))) &&& 252645135#32) |||
    (((W (ix2 b m1) >>> (4 * (l.val / 64))) &&& 252645135#32) <<< 4)) (p.val % 4)) ?_ ?_
  · refine congrArg (fun V => byteAt V (p.val % 4)) ?_
    show (IntOp.shrui .vector (dynamicGather (1 : Fin S256x128.rank) W _ (ix2 b l)) (Scalar.select (IntOp.cmpi .sge (iota .tc S256x128 32 [1] iota_S256x128_d1_w32 (ix2 b l)) 64#32) 4#32 0#32) &&& 252645135#32)
      ||| IntOp.shli .vector (IntOp.shrui .vector (dynamicGather (1 : Fin S256x128.rank) W _ (ix2 b l)) (Scalar.select (IntOp.cmpi .sge (iota .tc S256x128 32 [1] iota_S256x128_d1_w32 (ix2 b l)) 64#32) 4#32 0#32) &&& 252645135#32) 4#32 = _
    rw [hs, hs, word W _ m0, word W _ m1]
    · rfl
    · rw [h1]
      refine Eq.trans ?_ (f1 l)
      rw [← hio]
      rfl
    · rw [h0]
      refine Eq.trans ?_ (f0 l)
      rw [← hio]
      rfl
  · have hb4 : p.val % 4 < 4 := by omega
    have bm : ∀ m : Fin 128, byteAt (W (ix2 b m)) (p.val % 4) = byte (code (quot a w p) ⟨m.val, by omega⟩) (code (quot a w p) ⟨128 + m.val, by omega⟩) := by
      intro m
      rw [← hW, byteAt_bitcast (R := 1024) (r := 256) (n := 128) _ bitcasts_S1024x128_w8_S256x128_w32 b m (p.val % 4) hb4 p (by omega),
        halves_apply, codesB_apply, codesB_apply]
    have nibs : ∀ (m : Fin 128) (k : Fin 256), k.val = 128 * (l.val / 64) + m.val →
        (byteAt (W (ix2 b m)) (p.val % 4) >>> (4 * (l.val / 64))) &&& 15#8 = (code (quot a w p) k).setWidth 8 &&& 15#8 := by
      intro m k hk
      rw [bm]
      have : l.val / 64 = 0 ∨ l.val / 64 = 1 := by omega
      rcases this with h | h
      · rw [h, byte_lo, show k = ⟨m.val, by omega⟩ from Fin.ext (by rw [hk, h]; show 128 * 0 + m.val = m.val; omega)]
      · rw [h, byte_hi, show k = ⟨128 + m.val, by omega⟩ from Fin.ext (by rw [hk, h])]
    have d15 : ∀ x : BitVec 8, x &&& 15#8 &&& 15#8 = x &&& 15#8 := by decide +kernel
    have hsl : ∀ V : BitVec 32, byteAt ((V >>> (4 * (l.val / 64)) &&& 252645135#32) <<< 4) (p.val % 4)
        = ((byteAt V (p.val % 4) >>> (4 * (l.val / 64))) &&& 15#8) <<< 4 := by
      intro V
      have := byteAt_shiftLeft (V >>> (4 * (l.val / 64)) &&& 252645135#32) (p.val % 4) hb4
      rw [byteAt_nibble _ _ _ (by omega) hb4, d15] at this
      rw [← this, BitVec.and_assoc, BitVec.and_self]
    rw [byteAt_or, hsl, byteAt_nibble _ _ _ (by omega) hb4,
      nibs m0 ⟨2 * l.val, by omega⟩ (by rw [h0]; show 2 * l.val = _; omega),
      nibs m1 ⟨2 * l.val + 1, by omega⟩ (by rw [h1]; show 2 * l.val + 1 = _; omega), join]
    rfl

end Cert.KernelIdeal.Val3

end
-- ==== Proof.Val.Blocks.lean ====
/- The kernel's text for the second, third and fourth block of columns computes what its text for the first computes. -/
module

public import proofs.«01_k».proof.Proof.Val.Quant

@[expose] public section

set_option maxRecDepth 16384

noncomputable section

namespace Cert.KernelIdeal.Val3

open Idealize.ShloMosaic Idealize.ShloMosaic.TcCoe
open Cert.KernelIdeal Cert.KernelIdeal.Gen

variable {F : FTy → Type} [FloatOps F] (a : Vec F S1024x256 .f32) (w : Elt F .f32)

/-- The lane numbers. -/
abbrev lanes : IVec S256x128 32 := iota .tc S256x128 32 [1] iota_S256x128_d1_w32

/-! ## The scale columns -/

theorem scale1 : k3_pay12 (k3_pay10 a w) (k3_pay11 a w) (FloatOps.ofBits .f32 1088421888#32) = k3_pay5 a w := by
  unfold k3_pay12 k3_pay10 k3_pay11 k3_pay10 k3_pay9 k3_pay5 k3_pay4; rfl

theorem scale2 : k3_pay20 a w = k3_pay5 a w := by
  unfold k3_pay20 k3_pay19 k3_pay5 k3_pay4; rfl

theorem scale3 : k3_pay28 a w = k3_pay5 a w := by
  unfold k3_pay28 k3_pay27 k3_pay5 k3_pay4; rfl

/-! ## The words -/

theorem words1 : k3_pay13 (k3_pay9 a w) (k3_pay10 a w) (k3_pay11 a w) (FloatOps.ofBits .f32 1088421888#32) = k3_pay6 a w := by
  unfold k3_pay13
  rw [scale1]
  unfold k3_pay6 k3_pay9 k3_pay4; rfl

theorem words2 : k3_pay22 (k3_pay21 a w) = k3_pay6 a w := by
  unfold k3_pay22 k3_pay21
  rw [scale2]
  unfold k3_pay6 k3_pay19 k3_pay4; rfl

theorem words3 : k3_pay29 a w = k3_pay6 a w := by
  unfold k3_pay29
  rw [scale3]
  unfold k3_pay6 k3_pay27 k3_pay4; rfl

/-! ## The packed codes -/

theorem gather1 : k3_pay14 (k3_pay9 a w) (k3_pay10 a w) (k3_pay11 a w) (FloatOps.ofBits .f32 1088421888#32)
    = dynamicGather (1 : Fin S256x128.rank) (k3_pay6 a w) k3_pay7 := by
  unfold k3_pay14
  rw [words1]
  generalize k3_pay6 a w = W
  unfold k3_pay7; rfl

theorem pack1 (W : IVec S256x128 32) :
    k3_pay18 W lanes (dynamicGather (1 : Fin S256x128.rank) W k3_pay7) k3_pay15 k3_pay16 k3_pay17 = k3_pay8 W lanes k3_pay7 := by
  unfold k3_pay18 k3_pay16 k3_pay17 k3_pay15 k3_pay8; rfl

theorem pack2 (q : IVec S1024x256 32) :
    k3_pay26 (k3_pay23 q) k3_pay24 (k3_pay25 q) 252645135#32 = k3_pay8 (k3_pay22 q) lanes k3_pay7 := by
  unfold k3_pay26 k3_pay23 k3_pay25 k3_pay24 k3_pay8
  generalize k3_pay22 q = W
  unfold k3_pay7; rfl

theorem pack3 (W : IVec S256x128 32) : k3_pay30 W lanes = k3_pay8 W lanes k3_pay7 := by
  unfold k3_pay30 k3_pay8 k3_pay7; rfl

theorem packB1 : k3_pay18 (k3_pay13 (k3_pay9 a w) (k3_pay10 a w) (k3_pay11 a w) (FloatOps.ofBits .f32 1088421888#32)) lanes
    (k3_pay14 (k3_pay9 a w) (k3_pay10 a w) (k3_pay11 a w) (FloatOps.ofBits .f32 1088421888#32)) k3_pay15 k3_pay16 k3_pay17 = packB a w := by
  rw [words1, gather1]; exact pack1 _

theorem packB2 : k3_pay26 (k3_pay23 (k3_pay21 a w)) k3_pay24 (k3_pay25 (k3_pay21 a w)) 252645135#32 = packB a w := by
  rw [pack2, words2]; rfl

theorem packB3 : k3_pay30 (k3_pay29 a w) lanes = packB a w := by
  rw [words3]; exact pack3 _

end Cert.KernelIdeal.Val3

end
-- ==== Proof.Val.Block3.lean ====
/- What the weight-gradient kernel's body does at each kind of step: it adds the step's product to the accumulator, and at the
   last step of a run it leaves the packed codes and the scales of the accumulator's 256-column blocks. -/
module

public import proofs.«01_k».proof.Proof.Frame.Region3
public import proofs.«01_k».proof.Proof.Val.Blocks
public import proofs.«01_k».proof.Proof.Val.Sums

@[expose] public section

set_option maxRecDepth 16384

noncomputable section

namespace Cert.KernelIdeal.Val3

open Idealize.ShloMosaic Idealize.ShloMosaic.TcCoe Idealize.SL.Sem Idealize.ShloMosaic.ValueIdx
open Idealize.ShloMosaic.Tactic
open Cert.KernelIdeal Cert.KernelIdeal.Gen Cert.KernelIdeal.Val
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulator -/

section Cases
variable {F : FTy → Type} [FloatOps F]
variable (c : Dev nD) (i : grid3.Coords) (a3 : Memref sig .tc .smem S1 .f32) (h3 : a3.IsWhole)
    (a4 : Memref sig .tc .vmem S2048x1024 .bf16) (h4 : a4.IsWhole) (a5 : Memref sig .tc .vmem S2048x1024 .bf16) (h5 : a5.IsWhole)
    (a6 : Memref sig .tc .vmem S1024x512 .i8) (h6 : a6.IsWhole) (a7 : Memref sig .tc .vmem S1x1024x4 .f32) (h7 : a7.IsWhole)
    (a8 : Memref sig .tc .vmem S1024x1024 .f32) (h8 : a8.IsWhole)
    (u : Vec F S1 .f32) (g : Vec F S2048x1024 .bf16) (x : Vec F S2048x1024 .bf16) (acc : Vec F S1024x1024 .f32)

/-- At the first step of a run the accumulator is left at the zero block plus the step's product. -/
theorem sout_A (hc0 hc1) : sout3_A_0 c i a3 h3 a4 h4 a5 h5 a6 h6 a7 h7 a8 h8 hc0 hc1 u g x = k3_pay2 k3_pay1 g x := by
  unfold sout3_A_0
  rw [View.read_writes_eq_canon _ _ _ (scover3_A_0 c i a3 h3 a4 h4 a5 h5 a6 h6 a7 h7 a8 h8 hc0 hc1 u g x)]
  unfold kernelRun3_A
  dsimp only
  sl_unfold_words
  rw [View.canon_cons_unit_zero (S := S1024x1024) hz2, View.readCov_unit_zero (S := S1024x1024) _ hz2]
  simp only [View.readAt_eq_ld, h4.read_unread, h5.read_unread, View.ld_unit_zero (S := S2048x1024) hz2,
    View.ld_unit_zero (S := S1024x1024) hz2]

/-- At a later step it is left at what it held plus the step's product. -/
theorem sout_B (hc0 hc1) : sout3_B_0 c i a3 h3 a4 h4 a5 h5 a6 h6 a7 h7 a8 h8 hc0 hc1 u g x acc = k3_pay2 acc g x := by
  unfold sout3_B_0
  rw [View.read_writes_eq_canon _ _ _ (scover3_B_0 c i a3 h3 a4 h4 a5 h5 a6 h6 a7 h7 a8 h8 hc0 hc1 u g x acc)]
  unfold kernelRun3_B
  dsimp only
  rw [View.canon_unit_zero (S := S1024x1024) hz2]
  simp only [View.readAt_eq_ld, h4.read_unread, h5.read_unread, h8.read_unread, View.ld_unit_zero (S := S2048x1024) hz2,
    View.ld_unit_zero (S := S1024x1024) hz2]

/-- At the last step of a run the same. -/
theorem sout_C (hc0 hc1) : sout3_C_0 c i a3 h3 a4 h4 a5 h5 a6 h6 a7 h7 a8 h8 hc0 hc1 u g x acc = k3_pay2 acc g x := by
  unfold sout3_C_0
  rw [View.read_writes_eq_canon _ _ _ (scover3_C_0 c i a3 h3 a4 h4 a5 h5 a6 h6 a7 h7 a8 h8 hc0 hc1 u g x acc)]
  unfold kernelRun3_C
  dsimp only
  sl_unfold_words
  rw [View.canon_unit_zero (S := S1024x1024) hz2]
  simp only [View.readAt_eq_ld, h4.read_unread, h5.read_unread, h8.read_unread, View.ld_unit_zero (S := S2048x1024) hz2,
    View.ld_unit_zero (S := S1024x1024) hz2]

end Cases

/-! ## The quantised block -/

/-- Columns 256 q to 256 q + 255 of an accumulator. -/
def cols (s : Vec Ideal S1024x1024 .f32) (q : Fin 4) : Vec Ideal S1024x256 .f32 :=
  fun y => s (ix2 (y 0) ⟨256 * q.val + (y 1).val, by have : (y 1).val < 256 := (y 1).isLt; omega⟩)

/-- The load of those columns from an accumulator just stored. -/
theorem read_cols (v : View sig .tc .vmem S1024x1024 .f32) (s : Vec Ideal S1024x1024 .f32) (q : Fin 4) (o : Nat) (inb io) (ho : o = 256 * q.val) :
    v.readCov (Val := Elt Ideal) [⟨Rect.unit (s := S1024x1024) ![0, 0] S1024x1024.size inb, s⟩] (Rect.unit (s := S1024x1024) ![0, o] S1024x256.size io).toLoadRect = cols s q := by
  rw [View.readCov_eq_canon', View.canon_unit_zero (S := S1024x1024) hz2]
  funext y
  refine congrArg s (funext fun a => Fin.ext ?_)
  match a with
  | ⟨0, _⟩ => show 0 + 1 * (y 0 : Nat) = y 0; omega
  | ⟨1, _⟩ => show o + 1 * (y 1 : Nat) = 256 * q.val + y 1; omega

/-- The divisor as the body reads it. -/
def divisor (u : Vec Ideal S1 .f32) : Elt Ideal .f32 :=
  View.ld (Val := Elt Ideal) u (Rect.unit (s := S1) ![0] S1.size inb_S1_S1_0) (Shape.Idx.first (by decide))

theorem divisor_eq (u : Vec Ideal S1 .f32) : divisor u = u (ix1 0) := by
  unfold divisor
  refine congrArg u ?_
  funext a
  match a with | ⟨0, _⟩ => exact Subsingleton.elim (α := Fin 1) _ _

/-- The packed codes of an accumulator. -/
def blockCodes (s : Vec Ideal S1024x1024 .f32) (w : Elt Ideal .f32) : IVec S1024x512 8 := fun y =>
  packed (quot (cols s ⟨(y 1).val / 128, by have : (y 1).val < 512 := (y 1).isLt; omega⟩) w (y 0)) ⟨(y 1).val % 128, by omega⟩

/-- The scales of an accumulator. -/
def blockScales (s : Vec Ideal S1024x1024 .f32) (w : Elt Ideal .f32) : Vec Ideal S1x1024x4 .f32 := fun y =>
  scale (quot (cols s (y 2)) w (y 1))

/-- One stored block of codes is its columns of the whole. -/
theorem codes_piece (s : Vec Ideal S1024x1024 .f32) (w : Elt Ideal .f32) (q : Fin 4) (c : Nat) (ic) (hc : c = 128 * q.val) (x : S1024x128.Idx) :
    packB (cols s q) w x = blockCodes s w ((Rect.unit (s := S1024x512) ![0, c] S1024x128.size ic).emb x) := by
  have hl : (x 1 : Nat) < 128 := (x 1).isLt
  refine (congrArg _ (eq_ix2 x)).trans ((packB_apply _ _ (x 0) (x 1)).trans ?_)
  have e0 : (((Rect.unit (s := S1024x512) ![0, c] S1024x128.size ic).emb x 0 : Fin _) : Nat) = x 0 := by
    show 0 + 1 * (x 0 : Nat) = x 0; omega
  have e1 : (((Rect.unit (s := S1024x512) ![0, c] S1024x128.size ic).emb x 1 : Fin _) : Nat) = 128 * q.val + x 1 := by
    show c + 1 * (x 1 : Nat) = 128 * q.val + x 1; omega
  generalize (Rect.unit (s := S1024x512) ![0, c] S1024x128.size ic).emb x = y at e0 e1 ⊢
  unfold blockCodes
  rw [show (⟨(y 1).val / 128, by have : (y 1).val < 512 := (y 1).isLt; omega⟩ : Fin 4) = q from Fin.ext (by show (y 1).val / 128 = q.val; omega),
    show (⟨(y 1).val % 128, by omega⟩ : Fin 128) = x 1 from Fin.ext (by show (y 1).val % 128 = (x 1).val; omega),
    show y 0 = x 0 from Fin.ext e0]

/-- Four columns side by side. -/
theorem columns_apply (f : Fin 4 → FVec Ideal S1024x1 .f32) (r : Fin 1024) (q : Fin 4) :
    concatenate S1024x4 1 [⟨S1024x1, f 0⟩, ⟨S1024x1, f 1⟩, ⟨S1024x1, f 2⟩, ⟨S1024x1, f 3⟩]
      concatenates_S1024x1_S1024x1_S1024x1_S1024x1_S1024x4_d1 (ix2 r q) = f q (ix2 r 0) := by
  have e := concatenate_ofFn_unit_apply (t := S1024x4) (s₁ := S1024x1) 1 f concatenates_S1024x1_S1024x1_S1024x1_S1024x1_S1024x4_d1 rfl rfl
    (ix2 r q) q rfl (ix2 r 0) (fun b hb => by
      match b with
      | ⟨0, _⟩ => rfl
      | ⟨1, _⟩ => exact absurd rfl hb)
  exact e

theorem pay3_apply (f : Fin 4 → FVec Ideal S1024x1 .f32) (r : Fin 1024) (q : Fin 4) :
    k3_pay3 (f 0) (f 1) (f 2) (f 3) (ix3 0 r q) = f q (ix2 r 0) := by
  unfold k3_pay3
  exact (shapeCast_apply _ _ _ (ix2 r q) (by
    rw [Shape.rowMajor_val_two, Shape.rowMajor_val_three]
    show r.val * 4 + q.val = (0 * 1024 + r.val) * 4 + q.val
    omega)).trans (columns_apply f r q)

section CaseC
variable (c : Dev nD) (i : grid3.Coords) (a3 : Memref sig .tc .smem S1 .f32) (h3 : a3.IsWhole)
    (a4 : Memref sig .tc .vmem S2048x1024 .bf16) (h4 : a4.IsWhole) (a5 : Memref sig .tc .vmem S2048x1024 .bf16) (h5 : a5.IsWhole)
    (a6 : Memref sig .tc .vmem S1024x512 .i8) (h6 : a6.IsWhole) (a7 : Memref sig .tc .vmem S1x1024x4 .f32) (h7 : a7.IsWhole)
    (a8 : Memref sig .tc .vmem S1024x1024 .f32) (h8 : a8.IsWhole)
    (u : Vec Ideal S1 .f32) (g : Vec Ideal S2048x1024 .bf16) (x : Vec Ideal S2048x1024 .bf16) (acc : Vec Ideal S1024x1024 .f32)

/-- The last step of a run leaves the packed codes of the finished accumulator. -/
theorem out_C_3 (hc0 hc1) : out3_C_3 c i a3 h3 a4 h4 a5 h5 a6 h6 a7 h7 a8 h8 hc0 hc1 u g x acc
    = blockCodes (k3_pay2 acc g x) (divisor u) := by
  unfold out3_C_3
  rw [View.read_writes_eq_canon _ _ _ (cover3_C_3 c i a3 h3 a4 h4 a5 h5 a6 h6 a7 h7 a8 h8 hc0 hc1 u g x acc)]
  funext y
  refine View.canon_apply_of_pieces (Val := Elt Ideal) (e := .i8) (blockCodes (k3_pay2 acc g x) (divisor u)) _ ?_ y
    (cover3_C_3 c i a3 h3 a4 h4 a5 h5 a6 h6 a7 h7 a8 h8 hc0 hc1 u g x acc y)
  unfold kernelRun3_C
  dsimp only
  sl_unfold_words
  simp only [View.readAt_eq_ld, h3.read_unread, h4.read_unread, h5.read_unread, h8.read_unread, View.ld_unit_zero (S := S2048x1024) hz2,
    View.ld_unit_zero (S := S1024x1024) hz2]
  refine List.forall_mem_cons.mpr ⟨fun x => ?_, ?_⟩
  · dsimp only
    rw [read_cols _ _ 3 768 _ _ (by decide)]
    exact (congrFun (packB3 _ (divisor u)) x).trans (codes_piece _ (divisor u) 3 384 _ (by decide) x)
  refine List.forall_mem_cons.mpr ⟨fun x => ?_, ?_⟩
  · dsimp only
    rw [read_cols _ _ 2 512 _ _ (by decide)]
    exact (congrFun (packB2 _ (divisor u)) x).trans (codes_piece _ (divisor u) 2 256 _ (by decide) x)
  refine List.forall_mem_cons.mpr ⟨fun x => ?_, ?_⟩
  · dsimp only
    rw [read_cols _ _ 1 256 _ _ (by decide)]
    exact (congrFun (packB1 _ (divisor u)) x).trans (codes_piece _ (divisor u) 1 128 _ (by decide) x)
  refine List.forall_mem_cons.mpr ⟨fun x => ?_, ?_⟩
  · dsimp only
    rw [read_cols _ _ 0 0 _ _ (by decide)]
    exact codes_piece _ (divisor u) 0 0 _ (by decide) x
  exact fun _ h => absurd h List.not_mem_nil

/-- And its scales. -/
theorem out_C_4 (hc0 hc1) : out3_C_4 c i a3 h3 a4 h4 a5 h5 a6 h6 a7 h7 a8 h8 hc0 hc1 u g x acc
    = blockScales (k3_pay2 acc g x) (divisor u) := by
  unfold out3_C_4
  rw [View.read_writes_eq_canon _ _ _ (cover3_C_4 c i a3 h3 a4 h4 a5 h5 a6 h6 a7 h7 a8 h8 hc0 hc1 u g x acc)]
  unfold kernelRun3_C
  dsimp only
  sl_unfold_words
  simp only [View.readAt_eq_ld, h3.read_unread, h4.read_unread, h5.read_unread, h8.read_unread, View.ld_unit_zero (S := S2048x1024) hz2,
    View.ld_unit_zero (S := S1024x1024) hz2]
  rw [View.canon_unit_zero (S := S1x1024x4) hz3, read_cols _ _ 0 0 _ _ (by decide), read_cols _ _ 1 256 _ _ (by decide), read_cols _ _ 2 512 _ _ (by decide),
    read_cols _ _ 3 768 _ _ (by decide), scale1, scale2, scale3]
  generalize k3_pay2 acc g x = s
  funext y
  have h0 : y 0 = (0 : Fin 1) := Subsingleton.elim (α := Fin 1) _ _
  refine (congrArg _ ((eq_ix3 y).trans (congrArg (fun z => ix3 z (y 1) (y 2)) h0))).trans
    ((pay3_apply (fun q => k3_pay5 (cols s q) (divisor u)) (y 1) (y 2)).trans ?_)
  exact pay5_apply _ _ (y 1)

end CaseC

end Cert.KernelIdeal.Val3

end
-- ==== Proof.Val.Value3.lean ====
/- What the weight-gradient kernel leaves: the packed codes and the scales of the gradient over the divisor, where entry (n, k)
   of the gradient is the sum over all rows t of dy[t, n] · x[t, k], which the kernel adds up in three runs of 2048 terms. -/
module

public import proofs.«01_k».proof.Proof.Val.Block3

@[expose] public section

set_option maxRecDepth 16384

noncomputable section

namespace Cert.KernelIdeal.Val3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Val
open scoped BigOperators

variable (V : (c : Dev nD) → (b : Ref sig .tc) → Buf (Elt Ideal) ((c : Thread nD τ).loc b))

/-- Where the blocks of grid point `t` lie. -/
theorem index3 : ∀ t : Fin grid3.N,
    win3_1.index t 0 = t.val % 3 ∧ win3_1.index t 1 = t.val / 12 ∧ win3_2.index t 0 = t.val % 3 ∧ win3_2.index t 1 = t.val / 3 % 4
      ∧ win3_3.index t 0 = t.val / 12 ∧ win3_3.index t 1 = t.val / 3 % 4
      ∧ win3_4.index t 0 = t.val / 3 % 4 ∧ win3_4.index t 1 = t.val / 12 ∧ win3_4.index t 2 = 0 ∧ win3_0.index t 0 = 0 := by decide +kernel

/-- The weight gradient: the first array's columns against the second's. -/
def grad (g : Vec Ideal S6144x14336 .bf16) (x : Vec Ideal S6144x4096 .bf16) : Vec Ideal S14336x4096 .f32 :=
  fun i => ∑ t : Fin 6144, g (ix2 t (i 0)) * x (ix2 t (i 1))

/-- The `n`-th term of entry (R, C) of the gradient (zero past the end). -/
def term (g : Vec Ideal S6144x14336 .bf16) (x : Vec Ideal S6144x4096 .bf16) (R : Fin 14336) (C : Fin 4096) (n : ℕ) : EReal :=
  if h : n < 6144 then g (ix2 ⟨n, h⟩ R) * x (ix2 ⟨n, h⟩ C) else 0

/-- Block `j` of row `n` of a gradient, over the divisor. -/
def row (G : Vec Ideal S14336x4096 .f32) (w : EReal) (n : Fin 14336) (j : Fin 16) : Fin 256 → EReal :=
  fun k => FloatOps.divf (F := Ideal) (φ := .f32) (G (ix2 n ⟨256 * j.val + k.val, by omega⟩)) w

/-- The packed codes of a gradient. -/
def codesOf (G : Vec Ideal S14336x4096 .f32) (w : EReal) : IVec S14336x2048 8 := fun i =>
  packed (row G w (i 0) ⟨(i 1).val / 128, by have : (i 1).val < 2048 := (i 1).isLt; omega⟩) ⟨(i 1).val % 128, by omega⟩

/-- The scales of a gradient, four blocks of a row to each leading index. -/
def scalesOf (G : Vec Ideal S14336x4096 .f32) (w : EReal) : Vec Ideal S4x14336x4 .f32 := fun i =>
  scale (row G w (i 1) ⟨4 * (i 0).val + (i 2).val, by have : (i 0).val < 4 := (i 0).isLt; have : (i 2).val < 4 := (i 2).isLt; omega⟩)

theorem k3_pay2_apply (acc : Vec Ideal S1024x1024 .f32) (g x : Vec Ideal S2048x1024 .bf16) (r n : Fin 1024) :
    k3_pay2 acc g x (ix2 r n) = acc (ix2 r n) + ∑ k : Fin 2048, g (ix2 k r) * x (ix2 k n) := by
  unfold k3_pay2
  rw [shapeCast_self, shapeCast_self, shapeCast_self]
  have h := matmul_dimsTL_apply (K := 2048) (M := 1024) (N := 1024) dot_S2048x1024_S2048x1024_S1024x1024_0_0_1_1_n_n.wf
    (φ₁ := .bf16) (φ₂ := .bf16) none g x (constant S1024x1024 .f32 0x00000000#32) r n
  have z : (constant S1024x1024 .f32 0x00000000#32 : FVec Ideal S1024x1024 .f32) (ix2 r n) = (0 : EReal) := Ideal.ofBits_zero_f32
  rw [z, zero_add] at h
  exact congrArg (acc (ix2 r n) + ·) h

theorem k3_pay1_apply (y : S1024x1024.Idx) : (k3_pay1 (F := Ideal)) y = (0 : EReal) := by
  unfold k3_pay1
  rw [shapeCast_self]
  exact Ideal.ofBits_zero_f32

theorem iblk3_1_apply (c : Dev nD) (t : Fin cfg3.N) (k : Fin 2048) (r : Fin 1024) (K : Fin 6144) (R : Fin 14336)
    (hK : K.val = t.val % 3 * 2048 + k.val) (hR : R.val = t.val / 12 * 1024 + r.val) :
    (iblk3 V c 1 t : Vec Ideal S2048x1024 .bf16) (ix2 k r) = V c main_v1 (ix2 K R) := by
  have h := index3 t
  show V c main_v1 ((win3_1.rect t).emb (ix2 k r)) = _
  congr 1
  funext a; apply Fin.ext
  rw [win3_1.rect_emb_val]
  match a with
  | ⟨0, _⟩ => show win3_1.index t 0 * 2048 + k.val = K.val; rw [h.1, hK]
  | ⟨1, _⟩ => show win3_1.index t 1 * 1024 + r.val = R.val; rw [h.2.1, hR]

theorem iblk3_2_apply (c : Dev nD) (t : Fin cfg3.N) (k : Fin 2048) (n : Fin 1024) (K : Fin 6144) (C : Fin 4096)
    (hK : K.val = t.val % 3 * 2048 + k.val) (hC : C.val = t.val / 3 % 4 * 1024 + n.val) :
    (iblk3 V c 2 t : Vec Ideal S2048x1024 .bf16) (ix2 k n) = V c main_v0 (ix2 K C) := by
  have h := index3 t
  show V c main_v0 ((win3_2.rect t).emb (ix2 k n)) = _
  congr 1
  funext a; apply Fin.ext
  rw [win3_2.rect_emb_val]
  match a with
  | ⟨0, _⟩ => show win3_2.index t 0 * 2048 + k.val = K.val; rw [h.2.2.1, hK]
  | ⟨1, _⟩ => show win3_2.index t 1 * 1024 + n.val = C.val; rw [h.2.2.2.1, hC]

theorem divisor_apply (c : Dev nD) (t : Fin cfg3.N) : divisor (iblk3 V c 0 t) = V c main_arg4 (ix1 0) := by
  rw [divisor_eq]
  show V c main_arg4 ((win3_0.rect t).emb (ix1 0)) = _
  congr 1
  funext a
  match a with | ⟨0, _⟩ => exact Subsingleton.elim (α := Fin 1) _ _

theorem step_apply (c : Dev nD) (t : Fin cfg3.N) (r n : Fin 1024) (R : Fin 14336) (C : Fin 4096)
    (hR : R.val = t.val / 12 * 1024 + r.val) (hC : C.val = t.val / 3 % 4 * 1024 + n.val) (k : Fin 2048) :
    HMul.hMul (α := EReal) (β := EReal) ((iblk3 V c 1 t : Vec Ideal S2048x1024 .bf16) (ix2 k r)) ((iblk3 V c 2 t : Vec Ideal S2048x1024 .bf16) (ix2 k n))
      = term (V c main_v1) (V c main_v0) R C (t.val % 3 * 2048 + k.val) := by
  have hk := k.isLt
  have hlt : t.val % 3 * 2048 + k.val < 6144 := by omega
  rw [iblk3_1_apply V c t k r ⟨_, hlt⟩ R rfl hR, iblk3_2_apply V c t k n ⟨_, hlt⟩ C rfl hC]
  unfold term
  rw [dif_pos hlt]

theorem acc_A (c : Dev nD) (t : Fin cfg3.N) (h0 : t.val % 3 = 0) :
    (outsAt3 V c t.val t.isLt).2.2 = k3_pay2 k3_pay1 (iblk3 V c 1 t) (iblk3 V c 2 t) := by
  rw [outsAt3_A V c t h0 (by omega), sout_A]

theorem acc_BC (c : Dev nD) (t : Fin cfg3.N) (h0 : ¬t.val % 3 = 0) :
    (outsAt3 V c t.val t.isLt).2.2
      = k3_pay2 (outsAt3 V c (t.val - 1) (Nat.lt_of_le_of_lt (Nat.sub_le _ _) t.isLt)).2.2 (iblk3 V c 1 t) (iblk3 V c 2 t) := by
  by_cases h1 : t.val % 3 = 2
  · rw [outsAt3_C V c t h0 h1, sout_C]
  · rw [outsAt3_B V c t h0 h1, sout_B]

/-- The accumulator after a step, read at an entry: the terms of the steps of its run so far. -/
theorem acc_apply (c : Dev nD) (n : ℕ) : ∀ (hn : n < cfg3.N) (r q : Fin 1024) (R : Fin 14336) (C : Fin 4096)
    (hR : R.val = n / 12 * 1024 + r.val) (hC : C.val = n / 3 % 4 * 1024 + q.val),
    (outsAt3 V c n hn).2.2 (ix2 r q) = ∑ k ∈ Finset.range ((n % 3 + 1) * 2048), term (V c main_v1) (V c main_v0) R C k := by
  induction n with
  | zero =>
    intro hn r q R C hR hC
    refine (congrFun (acc_A V c ⟨0, hn⟩ rfl) _).trans ?_
    rw [k3_pay2_apply, k3_pay1_apply, zero_add]
    exact sum_block_zero _ _ _ fun k => (step_apply V c ⟨0, hn⟩ r q R C hR hC k).trans (by simp)
  | succ n ih =>
    intro hn r q R C hR hC
    by_cases h0 : (n + 1) % 3 = 0
    · refine (congrFun (acc_A V c ⟨n + 1, hn⟩ h0) _).trans ?_
      rw [k3_pay2_apply, k3_pay1_apply, zero_add, h0]
      exact sum_block_zero _ _ _ fun k => (step_apply V c ⟨n + 1, hn⟩ r q R C hR hC k).trans (by dsimp only; rw [h0]; simp)
    · have hm : (n + 1) % 3 = n % 3 + 1 := by omega
      have ihn := ih (Nat.lt_of_succ_lt hn) r q R C (by rw [hR]; omega) (by rw [hC]; omega)
      have st := sum_block (term (V c main_v1) (V c main_v0) R C) 2048 (n % 3 + 1) _
        (fun k => (step_apply V c ⟨n + 1, hn⟩ r q R C hR hC k).trans (by dsimp only; rw [hm]))
      refine (congrFun (acc_BC V c ⟨n + 1, hn⟩ h0) _).trans ?_
      rw [k3_pay2_apply, hm, ← st, ← ihn]; rfl

/-- At the last step of a run the accumulator holds the gradient's block. -/
theorem acc_last (c : Dev nD) (t : Fin cfg3.N) (h2 : t.val % 3 = 2) (r q : Fin 1024) (R : Fin 14336) (C : Fin 4096)
    (hR : R.val = t.val / 12 * 1024 + r.val) (hC : C.val = t.val / 3 % 4 * 1024 + q.val) :
    (outsAt3 V c t.val t.isLt).2.2 (ix2 r q) = grad (V c main_v1) (V c main_v0) (ix2 R C) := by
  rw [acc_apply V c t.val t.isLt r q R C hR hC, h2, Finset.sum_range]
  unfold grad
  refine Finset.sum_congr rfl fun n _ => ?_
  unfold term
  exact dif_pos n.isLt

/-- A row of a block of the accumulator, over the divisor, is a row of the gradient's block. -/
theorem quot_last (c : Dev nD) (t : Fin cfg3.N) (h2 : t.val % 3 = 2) (q : Fin 4) (w : EReal) (r : Fin 1024) (R : Fin 14336) (j : Fin 16)
    (hR : R.val = t.val / 12 * 1024 + r.val) (hj : j.val = 4 * (t.val / 3 % 4) + q.val) :
    quot (cols (outsAt3 V c t.val t.isLt).2.2 q) w r = row (grad (V c main_v1) (V c main_v0)) w R j := by
  funext k
  have hk := k.isLt
  exact congrArg (fun z => FloatOps.divf (F := Ideal) (φ := .f32) z w)
    (acc_last V c t h2 r ⟨256 * q.val + k.val, by omega⟩ R ⟨256 * j.val + k.val, by omega⟩ hR
      (by show 256 * j.val + k.val = t.val / 3 % 4 * 1024 + (256 * q.val + k.val); omega))

theorem out_last_3 (c : Dev nD) (t : Fin cfg3.N) (h2 : t.val % 3 = 2) :
    (outsAt3 V c t.val t.isLt).1 = blockCodes (outsAt3 V c t.val t.isLt).2.2 (V c main_arg4 (ix1 0)) := by
  rw [acc_BC V c t (by omega), outsAt3_C V c t (by omega) h2, out_C_3, divisor_apply]

theorem out_last_4 (c : Dev nD) (t : Fin cfg3.N) (h2 : t.val % 3 = 2) :
    (outsAt3 V c t.val t.isLt).2.1 = blockScales (outsAt3 V c t.val t.isLt).2.2 (V c main_arg4 (ix1 0)) := by
  rw [acc_BC V c t (by omega), outsAt3_C V c t (by omega) h2, out_C_4, divisor_apply]

/-- What the last step of a run writes back are its blocks of the whole codes, -/
theorem flushed3_3 (c : Dev nD) (t : Fin cfg3.N) (hf : (cfg3.win 3).flush t = true) :
    (dat3 V c).flushed 3 t = ((cfg3.win 3).blk t).view.read (Elt Ideal) (codesOf (grad (V c main_v1) (V c main_v0)) (V c main_arg4 (ix1 0))) := by
  have h2 : t.val % 3 = 2 := (flush3_3 t).mp hf
  show (cfg3.win 3).cut (grid3.coords t) ((dat3 V c).after 3 t) = _
  rw [after3_3]
  have h := index3 t
  rw [out_last_3 V c t h2]
  have hq := quot_last V c t h2
  generalize (outsAt3 V c t.val t.isLt).2.2 = v at hq ⊢
  funext y
  show blockCodes v (V c main_arg4 (ix1 0)) y = codesOf (grad (V c main_v1) (V c main_v0)) (V c main_arg4 (ix1 0)) ((win3_3.rect t).emb y)
  have e0 : (((win3_3.rect t).emb y 0 : Fin _) : Nat) = t.val / 12 * 1024 + (y 0).val := by
    rw [win3_3.rect_emb_val, h.2.2.2.2.1]; rfl
  have e1 : (((win3_3.rect t).emb y 1 : Fin _) : Nat) = t.val / 3 % 4 * 512 + (y 1).val := by
    rw [win3_3.rect_emb_val, h.2.2.2.2.2.1]; rfl
  have hy : (y 1).val < 512 := (y 1).isLt
  generalize (win3_3.rect t).emb y = z at e0 e1 ⊢
  unfold blockCodes codesOf
  rw [hq _ _ _ (z 0) ⟨(z 1).val / 128, by have : (z 1).val < 2048 := (z 1).isLt; omega⟩ e0
    (by show (z 1).val / 128 = 4 * (t.val / 3 % 4) + (y 1).val / 128; omega)]
  exact congrArg _ (Fin.ext (by show (y 1).val % 128 = (z 1).val % 128; omega))

/-- and of the whole scales. -/
theorem flushed3_4 (c : Dev nD) (t : Fin cfg3.N) (hf : (cfg3.win 4).flush t = true) :
    (dat3 V c).flushed 4 t = ((cfg3.win 4).blk t).view.read (Elt Ideal) (scalesOf (grad (V c main_v1) (V c main_v0)) (V c main_arg4 (ix1 0))) := by
  have h2 : t.val % 3 = 2 := (flush3_4 t).mp hf
  show (cfg3.win 4).cut (grid3.coords t) ((dat3 V c).after 4 t) = _
  rw [after3_4]
  have h := index3 t
  rw [out_last_4 V c t h2]
  have hq := quot_last V c t h2
  generalize (outsAt3 V c t.val t.isLt).2.2 = v at hq ⊢
  funext y
  show blockScales v (V c main_arg4 (ix1 0)) y = scalesOf (grad (V c main_v1) (V c main_v0)) (V c main_arg4 (ix1 0)) ((win3_4.rect t).emb y)
  have hy0 : (y 0).val < 1 := (y 0).isLt
  have e0 : (((win3_4.rect t).emb y 0 : Fin _) : Nat) = t.val / 3 % 4 := by
    rw [win3_4.rect_emb_val, h.2.2.2.2.2.2.1]; show t.val / 3 % 4 * 1 + (y 0).val = _; omega
  have e1 : (((win3_4.rect t).emb y 1 : Fin _) : Nat) = t.val / 12 * 1024 + (y 1).val := by
    rw [win3_4.rect_emb_val, h.2.2.2.2.2.2.2.1]; rfl
  have e2 : (((win3_4.rect t).emb y 2 : Fin _) : Nat) = (y 2).val := by
    rw [win3_4.rect_emb_val, h.2.2.2.2.2.2.2.2.1]; exact Nat.zero_add _
  generalize (win3_4.rect t).emb y = z at e0 e1 e2 ⊢
  have hz0 : (z 0).val < 4 := (z 0).isLt
  have hz2 : (z 2).val < 4 := (z 2).isLt
  unfold blockScales scalesOf
  exact congrArg scale (hq _ _ _ (z 1) ⟨4 * (z 0).val + (z 2).val, by omega⟩ e1
    (by show 4 * (z 0).val + (z 2).val = 4 * (t.val / 3 % 4) + (y 2).val; omega))

/-- The blocks of codes tile the result, -/
theorem cover3_3 (i : S14336x2048.Idx) :
    ∃ t : Fin cfg3.N, (cfg3.win 3).flush t = true ∧ i ∈ ((cfg3.win 3).blk t).view.set := by
  have h0 : (i 0 : Nat) < 14336 := (i 0).isLt
  have h1 : (i 1 : Nat) < 2048 := (i 1).isLt
  have hN : cfg3.N = 168 := N_3
  obtain ⟨t, ht⟩ : ∃ t : Fin cfg3.N, t.val = (i 0 : Nat) / 1024 * 12 + (i 1 : Nat) / 512 * 3 + 2 := ⟨⟨_, by omega⟩, rfl⟩
  refine ⟨t, (flush3_3 t).mpr (by omega), ?_⟩
  show i ∈ ((View.whole main_v9_0).slice (win3_3.rect t)).set
  rw [View.set_slice_whole, Rect.mem_set_unit]
  have h := index3 t
  intro a
  match a with
  | ⟨0, _⟩ => show win3_3.index t 0 * 1024 ≤ (i 0 : Nat) ∧ (i 0 : Nat) < win3_3.index t 0 * 1024 + 1024
              rw [h.2.2.2.2.1]; omega
  | ⟨1, _⟩ => show win3_3.index t 1 * 512 ≤ (i 1 : Nat) ∧ (i 1 : Nat) < win3_3.index t 1 * 512 + 512
              rw [h.2.2.2.2.2.1]; omega

/-- and so do the blocks of scales. -/
theorem cover3_4 (i : S4x14336x4.Idx) :
    ∃ t : Fin cfg3.N, (cfg3.win 4).flush t = true ∧ i ∈ ((cfg3.win 4).blk t).view.set := by
  have h0 : (i 0 : Nat) < 4 := (i 0).isLt
  have h1 : (i 1 : Nat) < 14336 := (i 1).isLt
  have h2 : (i 2 : Nat) < 4 := (i 2).isLt
  have hN : cfg3.N = 168 := N_3
  obtain ⟨t, ht⟩ : ∃ t : Fin cfg3.N, t.val = (i 1 : Nat) / 1024 * 12 + (i 0 : Nat) * 3 + 2 := ⟨⟨_, by omega⟩, rfl⟩
  refine ⟨t, (flush3_4 t).mpr (by omega), ?_⟩
  show i ∈ ((View.whole main_v9_1).slice (win3_4.rect t)).set
  rw [View.set_slice_whole, Rect.mem_set_unit]
  have h := index3 t
  intro a
  match a with
  | ⟨0, _⟩ => show win3_4.index t 0 * 1 ≤ (i 0 : Nat) ∧ (i 0 : Nat) < win3_4.index t 0 * 1 + 1
              rw [h.2.2.2.2.2.2.1]; omega
  | ⟨1, _⟩ => show win3_4.index t 1 * 1024 ≤ (i 1 : Nat) ∧ (i 1 : Nat) < win3_4.index t 1 * 1024 + 1024
              rw [h.2.2.2.2.2.2.2.1]; omega
  | ⟨2, _⟩ => show win3_4.index t 2 * 4 ≤ (i 2 : Nat) ∧ (i 2 : Nat) < win3_4.index t 2 * 4 + 4
              rw [h.2.2.2.2.2.2.2.2.1]; omega

theorem final3_3 (c : Dev nD) : (dat3 V c).arrAt 3 cfg3.N = codesOf (grad (V c main_v1) (V c main_v0)) (V c main_arg4 (ix1 0)) :=
  (dat3 V c).arrAt_eq_of_cover 3 _ (flushed3_3 V c) cover3_3

theorem final3_4 (c : Dev nD) : (dat3 V c).arrAt 4 cfg3.N = scalesOf (grad (V c main_v1) (V c main_v0)) (V c main_arg4 (ix1 0)) :=
  (dat3 V c).arrAt_eq_of_cover 4 _ (flushed3_4 V c) cover3_4

end Cert.KernelIdeal.Val3

end
-- ==== Proof.Val.Results.lean ====
/- The four results as functions of the arguments, in the order and layout in which the kernel program computes them: what
   each kernel leaves, between the reshapes and transposes of the program around it. -/
module

public import proofs.«01_k».proof.Proof.Val.Value0
public import proofs.«01_k».proof.Proof.Val.Value1
public import proofs.«01_k».proof.Proof.Val.Value2
public import proofs.«01_k».proof.Proof.Val.Value3

@[expose] public section

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

/-- The activations, one row to each token. -/
def rowsX (x : Vec Ideal S3x2048x4096 .bf16) : Vec Ideal S6144x4096 .bf16 :=
  shapeCast S6144x4096 x shapeCasts_S3x2048x4096_S6144x4096

/-- The output gradients, one row to each token. -/
def rowsG (dy : Vec Ideal S3x2048x14336 .bf16) : Vec Ideal S6144x14336 .bf16 :=
  shapeCast S6144x14336 dy shapeCasts_S3x2048x14336_S6144x14336

/-- The weights the packed codes and the scales stand for. -/
def wts (cd : IVec S8x3670016 8) (sc : Vec Ideal S8x28672 .f32) : Vec Ideal S14336x4096 .bf16 :=
  Val0.weights 14336 (shapeCast S14336x2048 cd shapeCasts_S8x3670016_S14336x2048) (shapeCast S14336x16 sc shapeCasts_S8x28672_S14336x16)

/-- The forward product. -/
def resY (x : Vec Ideal S3x2048x4096 .bf16) (cd : IVec S8x3670016 8) (sc : Vec Ideal S8x28672 .f32) : Vec Ideal S3x2048x14336 .bf16 :=
  shapeCast S3x2048x14336 (fwd (rowsX x) (wts cd sc)) shapeCasts_S6144x14336_S3x2048x14336

/-- The input gradient. -/
def resDx (dy : Vec Ideal S3x2048x14336 .bf16) (cd : IVec S8x3670016 8) (sc : Vec Ideal S8x28672 .f32) : Vec Ideal S3x2048x4096 .bf16 :=
  shapeCast S3x2048x4096 (Val2.prod (rowsG dy) (wts cd sc)) shapeCasts_S6144x4096_S3x2048x4096

/-- The packed codes of the weight gradient, each group's shards beside one another. -/
def resCodes (x : Vec Ideal S3x2048x4096 .bf16) (dy : Vec Ideal S3x2048x14336 .bf16) (ws : Vec Ideal S1 .f32) : IVec S8x3670016 8 :=
  shapeCast S8x3670016 (transpose S4x2x3670016 [1, 0, 2]
    (shapeCast S2x4x3670016 (Val3.codesOf (Val3.grad (rowsG dy) (rowsX x)) (ws (ix1 0))) shapeCasts_S14336x2048_S2x4x3670016)
    transposes_S2x4x3670016_S4x2x3670016_1_0_2) shapeCasts_S4x2x3670016_S8x3670016

/-- The scales of the weight gradient, in the layout of its codes. -/
def resScales (x : Vec Ideal S3x2048x4096 .bf16) (dy : Vec Ideal S3x2048x14336 .bf16) (ws : Vec Ideal S1 .f32) : Vec Ideal S8x28672 .f32 :=
  shapeCast S8x28672 (transpose S4x2x28672 [1, 0, 2]
    (shapeCast S2x4x28672 (transpose S14336x4x4 [1, 0, 2] (Val3.scalesOf (Val3.grad (rowsG dy) (rowsX x)) (ws (ix1 0)))
      transposes_S4x14336x4_S14336x4x4_1_0_2) shapeCasts_S14336x4x4_S2x4x28672)
    transposes_S2x4x28672_S4x2x28672_1_0_2) shapeCasts_S4x2x28672_S8x28672

end Cert.KernelIdeal.Val

end
-- ==== Proof.Val.Hosts.lean ====
/- What the kernel program leaves in its four result buffers: the contents followed from the launch through the reshapes and
   the four kernels to the end. -/
module

public import proofs.«01_k».proof.Proof.Val.Results
public import proofs.«01_k».proof.Proof.Frame.Fold0

@[expose] public section

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- An argument as launched. -/
abbrev argX : Vec Ideal S3x2048x4096 .bf16 := m ((c : Thread nD τ).loc main_arg0)
abbrev argG : Vec Ideal S3x2048x14336 .bf16 := m ((c : Thread nD τ).loc main_arg1)
abbrev argC : IVec S8x3670016 8 := m ((c : Thread nD τ).loc main_arg2)
abbrev argS : Vec Ideal S8x28672 .f32 := m ((c : Thread nD τ).loc main_arg3)
abbrev argW : Vec Ideal S1 .f32 := m ((c : Thread nD τ).loc main_arg4)

/-! ## At the first kernel's entry -/

theorem v0_at1 : V1 m ρ c main_v0 = rowsX (argX m c) := by
  show StableHlo.after hostOps0 (W0 m ρ c) (Proc.devRef .tc main_v0) = _
  simp only [hostOps0, TRef.binary, TRef.ternary, TRef.unary, TRef.toBuf, TRef.ofBuf, cast_eq]
  after_results_simp <;> rfl
theorem v1_at1 : V1 m ρ c main_v1 = rowsG (argG m c) := by
  show StableHlo.after hostOps0 (W0 m ρ c) (Proc.devRef .tc main_v1) = _
  simp only [hostOps0, TRef.binary, TRef.ternary, TRef.unary, TRef.toBuf, TRef.ofBuf, cast_eq]
  after_results_simp <;> rfl
theorem v2_at1 : V1 m ρ c main_v2 = shapeCast S14336x2048 (argC m c) shapeCasts_S8x3670016_S14336x2048 := by
  show StableHlo.after hostOps0 (W0 m ρ c) (Proc.devRef .tc main_v2) = _
  simp only [hostOps0, TRef.binary, TRef.ternary, TRef.unary, TRef.toBuf, TRef.ofBuf, cast_eq]
  after_results_simp <;> rfl
theorem v3_at1 : V1 m ρ c main_v3 = shapeCast S14336x16 (argS m c) shapeCasts_S8x28672_S14336x16 := by
  show StableHlo.after hostOps0 (W0 m ρ c) (Proc.devRef .tc main_v3) = _
  simp only [hostOps0, TRef.binary, TRef.ternary, TRef.unary, TRef.toBuf, TRef.ofBuf, cast_eq]
  after_results_simp <;> rfl

/-! ## The weights, the forward product, the input gradient -/

theorem v4_at2 : V2 m ρ c main_v4 = wts (argC m c) (argS m c) := by
  refine (W2_arr m ρ c 2).trans ((Val0.final0 (V1 m ρ) c).trans ?_)
  rw [v2_at1, v3_at1]; rfl
theorem v0_at2 : V2 m ρ c main_v0 = rowsX (argX m c) :=
  (W2_of m ρ c main_v0 (by decide +kernel)).trans (v0_at1 m ρ c)
theorem v1_at2 : V2 m ρ c main_v1 = rowsG (argG m c) :=
  (W2_of m ρ c main_v1 (by decide +kernel)).trans (v1_at1 m ρ c)

theorem v5_at3 : V3 m ρ c main_v5 = fwd (rowsX (argX m c)) (wts (argC m c) (argS m c)) := by
  refine (W3_arr m ρ c 2).trans ((final1 (V2 m ρ) c).trans ?_)
  rw [v0_at2, v4_at2]
theorem v0_at3 : V3 m ρ c main_v0 = rowsX (argX m c) :=
  (W3_of m ρ c main_v0 (by decide +kernel)).trans (v0_at2 m ρ c)
theorem v1_at3 : V3 m ρ c main_v1 = rowsG (argG m c) :=
  (W3_of m ρ c main_v1 (by decide +kernel)).trans (v1_at2 m ρ c)
theorem v4_at3 : V3 m ρ c main_v4 = wts (argC m c) (argS m c) :=
  (W3_of m ρ c main_v4 (by decide +kernel)).trans (v4_at2 m ρ c)

theorem v6_at4 : V4 m ρ c main_v6 = resY (argX m c) (argC m c) (argS m c) := by
  have h : V4 m ρ c main_v6 = shapeCast S3x2048x14336 (V3 m ρ c main_v5) shapeCasts_S6144x14336_S3x2048x14336 := by
    show StableHlo.after hostOps2 (W3 m ρ c) (Proc.devRef .tc main_v6) = _
    simp only [hostOps2, TRef.binary, TRef.ternary, TRef.unary, TRef.toBuf, TRef.ofBuf, cast_eq]
    after_results_simp <;> rfl
  rw [h, v5_at3]; rfl
theorem v0_at4 : V4 m ρ c main_v0 = rowsX (argX m c) :=
  (W4_of m ρ c main_v0 (by decide +kernel)).trans (v0_at3 m ρ c)
theorem v1_at4 : V4 m ρ c main_v1 = rowsG (argG m c) :=
  (W4_of m ρ c main_v1 (by decide +kernel)).trans (v1_at3 m ρ c)
theorem v4_at4 : V4 m ρ c main_v4 = wts (argC m c) (argS m c) :=
  (W4_of m ρ c main_v4 (by decide +kernel)).trans (v4_at3 m ρ c)

theorem v7_at5 : V5 m ρ c main_v7 = Val2.prod (rowsG (argG m c)) (wts (argC m c) (argS m c)) := by
  refine (W5_arr m ρ c 2).trans ((Val2.final2 (V4 m ρ) c).trans ?_)
  rw [v1_at4, v4_at4]
theorem v0_at5 : V5 m ρ c main_v0 = rowsX (argX m c) :=
  (W5_of m ρ c main_v0 (by decide +kernel)).trans (v0_at4 m ρ c)
theorem v1_at5 : V5 m ρ c main_v1 = rowsG (argG m c) :=
  (W5_of m ρ c main_v1 (by decide +kernel)).trans (v1_at4 m ρ c)
theorem v6_at5 : V5 m ρ c main_v6 = resY (argX m c) (argC m c) (argS m c) :=
  (W5_of m ρ c main_v6 (by decide +kernel)).trans (v6_at4 m ρ c)

theorem v8_at6 : V6 m ρ c main_v8 = resDx (argG m c) (argC m c) (argS m c) := by
  have h : V6 m ρ c main_v8 = shapeCast S3x2048x4096 (V5 m ρ c main_v7) shapeCasts_S6144x4096_S3x2048x4096 := by
    show StableHlo.after hostOps3 (W5 m ρ c) (Proc.devRef .tc main_v8) = _
    simp only [hostOps3, TRef.binary, TRef.ternary, TRef.unary, TRef.toBuf, TRef.ofBuf, cast_eq]
    after_results_simp <;> rfl
  rw [h, v7_at5]; rfl
theorem v0_at6 : V6 m ρ c main_v0 = rowsX (argX m c) :=
  (W6_of m ρ c main_v0 (by decide +kernel)).trans (v0_at5 m ρ c)
theorem v1_at6 : V6 m ρ c main_v1 = rowsG (argG m c) :=
  (W6_of m ρ c main_v1 (by decide +kernel)).trans (v1_at5 m ρ c)
theorem v6_at6 : V6 m ρ c main_v6 = resY (argX m c) (argC m c) (argS m c) :=
  (W6_of m ρ c main_v6 (by decide +kernel)).trans (v6_at5 m ρ c)
theorem arg4_at6 : V6 m ρ c main_arg4 = argW m c := W6_args m ρ c main_arg4 (by decide)

/-! ## The weight gradient, and the results at the end -/

theorem v9_0_at7 : V7 m ρ c main_v9_0 = Val3.codesOf (Val3.grad (rowsG (argG m c)) (rowsX (argX m c))) (argW m c (ix1 0)) := by
  refine (W7_arr m ρ c 3).trans ((Val3.final3_3 (V6 m ρ) c).trans ?_)
  rw [v0_at6, v1_at6, arg4_at6]
theorem v9_1_at7 : V7 m ρ c main_v9_1 = Val3.scalesOf (Val3.grad (rowsG (argG m c)) (rowsX (argX m c))) (argW m c (ix1 0)) := by
  refine (W7_arr m ρ c 4).trans ((Val3.final3_4 (V6 m ρ) c).trans ?_)
  rw [v0_at6, v1_at6, arg4_at6]

theorem v6_end : W8 m ρ c (Proc.devRef .tc main_v6) = resY (argX m c) (argC m c) (argS m c) :=
  (W8_of m ρ c main_v6 (by decide +kernel)).trans ((W7_of m ρ c main_v6 (by decide +kernel)).trans (v6_at6 m ρ c))
theorem v8_end : W8 m ρ c (Proc.devRef .tc main_v8) = resDx (argG m c) (argC m c) (argS m c) :=
  (W8_of m ρ c main_v8 (by decide +kernel)).trans ((W7_of m ρ c main_v8 (by decide +kernel)).trans (v8_at6 m ρ c))

theorem v12_end : W8 m ρ c (Proc.devRef .tc main_v12) = resCodes (argX m c) (argG m c) (argW m c) := by
  have h : W8 m ρ c (Proc.devRef .tc main_v12) = shapeCast S8x3670016 (transpose S4x2x3670016 [1, 0, 2]
      (shapeCast S2x4x3670016 (V7 m ρ c main_v9_0) shapeCasts_S14336x2048_S2x4x3670016)
      transposes_S2x4x3670016_S4x2x3670016_1_0_2) shapeCasts_S4x2x3670016_S8x3670016 := by
    show StableHlo.after hostOps4 (W7 m ρ c) (Proc.devRef .tc main_v12) = _
    simp only [hostOps4, TRef.binary, TRef.ternary, TRef.unary, TRef.toBuf, TRef.ofBuf, cast_eq]
    after_results_simp <;> rfl
  rw [h, v9_0_at7]; rfl

theorem v16_end : W8 m ρ c (Proc.devRef .tc main_v16) = resScales (argX m c) (argG m c) (argW m c) := by
  have h : W8 m ρ c (Proc.devRef .tc main_v16) = shapeCast S8x28672 (transpose S4x2x28672 [1, 0, 2]
      (shapeCast S2x4x28672 (transpose S14336x4x4 [1, 0, 2] (V7 m ρ c main_v9_1)
        transposes_S4x14336x4_S14336x4x4_1_0_2) shapeCasts_S14336x4x4_S2x4x28672)
      transposes_S2x4x28672_S4x2x28672_1_0_2) shapeCasts_S4x2x28672_S8x28672 := by
    show StableHlo.after hostOps4 (W7 m ρ c) (Proc.devRef .tc main_v16) = _
    simp only [hostOps4, TRef.binary, TRef.ternary, TRef.unary, TRef.toBuf, TRef.ofBuf, cast_eq]
    after_results_simp <;> rfl
  rw [h, v9_1_at7]; rfl

end Cert.KernelIdeal.Val

end
-- ==== Proof.Val.RefWeights.lean ====
/- The reference's first two results are the kernel program's. The reference unpacks the low and the high nibbles into two
   arrays of half as many columns, the weights' even and odd columns; its forward product adds one product over each, and its
   input gradient takes one product for each and puts their columns in turn. -/
module

public import proofs.«01_k».proof.Proof.Val.Results
public import proofs.«01_k».proof.Proof.Gen.ReferenceIdeal.Read

@[expose] public section

set_option maxRecDepth 16384

noncomputable section

namespace Cert.Same

open Idealize.ShloMosaic Idealize.ShloMosaic.TcCoe Idealize.SL.Sem Idealize.ShloMosaic.ValueIdx
open Cert.ReferenceIdeal Cert.ReferenceIdeal.Gen Cert.ReferenceIdeal.Read
open Cert.KernelIdeal.Val (rowsX rowsG wts resY resDx nib)
open scoped BigOperators

/-! ## The nibbles -/

/-- The low nibble of a byte, taken by masking. -/
theorem low_nibble (b : BitVec 8) :
    IntOp.subi (IntOp.xori (IntOp.andi (b.setWidth 32) 15#32) 8#32) 8#32 = nib b 0 := by
  show (((b.setWidth 32) &&& 15#32) ^^^ 8#32) - 8#32 = nib b 0
  unfold nib
  rw [BitVec.ushiftRight_zero]

/-- The high nibble of a byte, taken by a shift that leaves nothing above it. -/
theorem high_nibble (b : BitVec 8) :
    IntOp.subi (IntOp.xori (IntOp.shrsi .host (b.setWidth 32) 4#32) 8#32) 8#32 = nib b 4 := by
  revert b
  decide +kernel

/-! ## The weights -/

/-- Where the weights' packed codes and scales lie in the arguments. -/
theorem wts_apply (x2 : IVec S8x3670016 8) (x3 : Vec Ideal S8x28672 .f32) (n : Fin 14336) (j : Fin 4096)
    (a : Fin 8) (b : Fin 3670016) (s : Fin 28672)
    (hb : a.val * 3670016 + b.val = n.val * 2048 + j.val / 2) (hs : a.val * 28672 + s.val = n.val * 16 + j.val / 256) :
    wts x2 x3 (ix2 n j) = HMul.hMul (α := EReal) (β := EReal)
      (((nib (x2 (ix2 a b)) (4 * (j.val % 2))).toInt : ℝ) : EReal) (x3 (ix2 a s)) := by
  have e1 : ∀ h, shapeCast Cert.KernelIdeal.S14336x2048 x2 h (ix2 n ⟨j.val / 2, by omega⟩) = x2 (ix2 a b) := fun h =>
    shapeCast_apply x2 h (ix2 n ⟨j.val / 2, by omega⟩) (ix2 a b) (by
      rw [Shape.rowMajor_val_two, Shape.rowMajor_val_two]
      show a.val * 3670016 + b.val = n.val * 2048 + j.val / 2
      exact hb)
  have e2 : ∀ h, shapeCast Cert.KernelIdeal.S14336x16 x3 h (ix2 n ⟨j.val / 256, by omega⟩) = x3 (ix2 a s) := fun h =>
    shapeCast_apply x3 h (ix2 n ⟨j.val / 256, by omega⟩) (ix2 a s) (by
      rw [Shape.rowMajor_val_two, Shape.rowMajor_val_two]
      show a.val * 28672 + s.val = n.val * 16 + j.val / 256
      exact hs)
  rw [← e1 Cert.KernelIdeal.Facts₀.shapeCasts_S8x3670016_S14336x2048, ← e2 Cert.KernelIdeal.Facts₀.shapeCasts_S8x28672_S14336x16]
  rfl

theorem v9_apply (x2 : IVec S8x3670016 8) (i : S8x3670016.Idx) :
    val_main_v9 (F := Ideal) x2 i = (((nib (x2 i) 0).toInt : ℝ) : EReal) := by
  rw [val_main_v9_apply, val_main_v8_apply, val_main_v6_apply, val_main_v2_apply, val_main_v0_apply, val_main_v1_apply,
    val_main_v5_apply, val_main_v7_apply, val_main_c_apply, val_main_c_1_apply, val_main_c_2_apply, low_nibble]
  rfl

theorem v20_apply (x2 : IVec S8x3670016 8) (i : S8x3670016.Idx) :
    val_main_v20 (F := Ideal) x2 i = (((nib (x2 i) 4).toInt : ℝ) : EReal) := by
  rw [val_main_v20_apply, val_main_v19_apply, val_main_v17_apply, val_main_v4_apply, val_main_v0_apply, val_main_v3_apply,
    val_main_v16_apply, val_main_v18_apply, val_main_c_0_apply, val_main_c_3_apply, val_main_c_4_apply, high_nibble]
  rfl

/-- The low nibbles are the weights' even columns. -/
theorem lo_apply (x2 : IVec S8x3670016 8) (x3 : Vec Ideal S8x28672 .f32) (n : Fin 14336) (k : Fin 2048) :
    val_main_v15 (F := Ideal) x2 x3 (ix2 n k) = wts x2 x3 (ix2 n ⟨2 * k.val, by omega⟩) := by
  have hn := n.isLt
  have hk := k.isLt
  rw [wts_apply x2 x3 n ⟨2 * k.val, by omega⟩ ⟨(n.val * 2048 + k.val) / 3670016, by omega⟩ ⟨(n.val * 2048 + k.val) % 3670016, by omega⟩
    ⟨(n.val * 2048 + k.val) / 128 % 28672, by omega⟩ (by show (n.val * 2048 + k.val) / 3670016 * 3670016 + (n.val * 2048 + k.val) % 3670016 = n.val * 2048 + 2 * k.val / 2; omega)
    (by show (n.val * 2048 + k.val) / 3670016 * 28672 + (n.val * 2048 + k.val) / 128 % 28672 = n.val * 16 + 2 * k.val / 256; omega)]
  rw [val_main_v15_apply, val_main_v14_apply, val_main_v13_apply, val_main_v10_apply, v9_apply, val_main_v12_apply, val_main_v11_apply]
  have h0 : 4 * (2 * k.val % 2) = 0 := by omega
  show HMul.hMul (α := EReal) (β := EReal) _ _ = _
  refine congrArg₂ (HMul.hMul (α := EReal) (β := EReal)) ?_ ?_
  · show (((nib (x2 _) 0).toInt : ℝ) : EReal) = (((nib (x2 _) (4 * (2 * k.val % 2))).toInt : ℝ) : EReal)
    rw [h0]
    refine congrArg (fun q => (((nib (x2 q) 0).toInt : ℝ) : EReal)) ?_
    funext a
    match a with
    | ⟨0, _⟩ => exact Fin.ext (by
        show (((n.val * 2048 + k.val) / 3670016 * 28672 + (n.val * 2048 + k.val) / 128 % 28672) * 128 + (n.val * 2048 + k.val) % 128) / 3670016
          = (n.val * 2048 + k.val) / 3670016
        omega)
    | ⟨1, _⟩ => exact Fin.ext (by
        show (((n.val * 2048 + k.val) / 3670016 * 28672 + (n.val * 2048 + k.val) / 128 % 28672) * 128 + (n.val * 2048 + k.val) % 128) % 3670016
          = (n.val * 2048 + k.val) % 3670016
        omega)
  · refine congrArg x3 ?_
    funext a
    match a with
    | ⟨0, _⟩ => rfl
    | ⟨1, _⟩ => rfl

/-- The high nibbles are the weights' odd columns. -/
theorem hi_apply (x2 : IVec S8x3670016 8) (x3 : Vec Ideal S8x28672 .f32) (n : Fin 14336) (k : Fin 2048) :
    val_main_v26 (F := Ideal) x2 x3 (ix2 n k) = wts x2 x3 (ix2 n ⟨2 * k.val + 1, by omega⟩) := by
  have hn := n.isLt
  have hk := k.isLt
  rw [wts_apply x2 x3 n ⟨2 * k.val + 1, by omega⟩ ⟨(n.val * 2048 + k.val) / 3670016, by omega⟩ ⟨(n.val * 2048 + k.val) % 3670016, by omega⟩
    ⟨(n.val * 2048 + k.val) / 128 % 28672, by omega⟩ (by show (n.val * 2048 + k.val) / 3670016 * 3670016 + (n.val * 2048 + k.val) % 3670016 = n.val * 2048 + (2 * k.val + 1) / 2; omega)
    (by show (n.val * 2048 + k.val) / 3670016 * 28672 + (n.val * 2048 + k.val) / 128 % 28672 = n.val * 16 + (2 * k.val + 1) / 256; omega)]
  rw [val_main_v26_apply, val_main_v25_apply, val_main_v24_apply, val_main_v21_apply, v20_apply, val_main_v23_apply, val_main_v22_apply]
  have h0 : 4 * ((2 * k.val + 1) % 2) = 4 := by omega
  show HMul.hMul (α := EReal) (β := EReal) _ _ = _
  refine congrArg₂ (HMul.hMul (α := EReal) (β := EReal)) ?_ ?_
  · show (((nib (x2 _) 4).toInt : ℝ) : EReal) = (((nib (x2 _) (4 * ((2 * k.val + 1) % 2))).toInt : ℝ) : EReal)
    rw [h0]
    refine congrArg (fun q => (((nib (x2 q) 4).toInt : ℝ) : EReal)) ?_
    funext a
    match a with
    | ⟨0, _⟩ => exact Fin.ext (by
        show (((n.val * 2048 + k.val) / 3670016 * 28672 + (n.val * 2048 + k.val) / 128 % 28672) * 128 + (n.val * 2048 + k.val) % 128) / 3670016
          = (n.val * 2048 + k.val) / 3670016
        omega)
    | ⟨1, _⟩ => exact Fin.ext (by
        show (((n.val * 2048 + k.val) / 3670016 * 28672 + (n.val * 2048 + k.val) / 128 % 28672) * 128 + (n.val * 2048 + k.val) % 128) % 3670016
          = (n.val * 2048 + k.val) % 3670016
        omega)
  · refine congrArg x3 ?_
    funext a
    match a with
    | ⟨0, _⟩ => rfl
    | ⟨1, _⟩ => rfl

/-! ## The arguments by rows -/

theorem rowsX_apply (x0 : Vec Ideal S3x2048x4096 .bf16) (b : Fin 3) (t : Fin 2048) (k : Fin 4096) (r : Fin 6144)
    (hr : r.val = b.val * 2048 + t.val) : rowsX x0 (ix2 r k) = x0 (ix3 b t k) :=
  shapeCast_apply x0 _ (ix2 r k) (ix3 b t k) (by
    rw [Shape.rowMajor_val_three, Shape.rowMajor_val_two]
    show (b.val * 2048 + t.val) * 4096 + k.val = r.val * 4096 + k.val
    rw [hr])

theorem rowsG_apply (x1 : Vec Ideal S3x2048x14336 .bf16) (b : Fin 3) (t : Fin 2048) (n : Fin 14336) (r : Fin 6144)
    (hr : r.val = b.val * 2048 + t.val) : rowsG x1 (ix2 r n) = x1 (ix3 b t n) :=
  shapeCast_apply x1 _ (ix2 r n) (ix3 b t n) (by
    rw [Shape.rowMajor_val_three, Shape.rowMajor_val_two]
    show (b.val * 2048 + t.val) * 14336 + n.val = r.val * 14336 + n.val
    rw [hr])

/-! ## The forward product -/

theorem v27_apply (x0 : Vec Ideal S3x2048x4096 .bf16) (b : Fin 3) (t : Fin 2048) (k : Fin 2048) :
    val_main_v27 (F := Ideal) x0 (ix3 b t k) = x0 (ix3 b t ⟨2 * k.val, by omega⟩) := by
  unfold val_main_v27 Host.slice
  refine congrArg x0 ?_
  funext a
  match a with
  | ⟨0, _⟩ => exact Fin.ext (by show 0 + 1 * b.val = b.val; omega)
  | ⟨1, _⟩ => exact Fin.ext (by show 0 + 1 * t.val = t.val; omega)
  | ⟨2, _⟩ => exact Fin.ext (by show 0 + 2 * k.val = 2 * k.val; omega)

theorem v29_apply (x0 : Vec Ideal S3x2048x4096 .bf16) (b : Fin 3) (t : Fin 2048) (k : Fin 2048) :
    val_main_v29 (F := Ideal) x0 (ix3 b t k) = x0 (ix3 b t ⟨2 * k.val + 1, by omega⟩) := by
  unfold val_main_v29 Host.slice
  refine congrArg x0 ?_
  funext a
  match a with
  | ⟨0, _⟩ => exact Fin.ext (by show 0 + 1 * b.val = b.val; omega)
  | ⟨1, _⟩ => exact Fin.ext (by show 0 + 1 * t.val = t.val; omega)
  | ⟨2, _⟩ => exact Fin.ext (by show 1 + 2 * k.val = 2 * k.val + 1; omega)

/-- The forward product at an entry, as one sum over the columns. -/
theorem resY_apply (x0 : Vec Ideal S3x2048x4096 .bf16) (x2 : IVec S8x3670016 8) (x3 : Vec Ideal S8x28672 .f32)
    (b : Fin 3) (t : Fin 2048) (n : Fin 14336) :
    resY x0 x2 x3 (ix3 b t n) = ∑ k : Fin 4096, HMul.hMul (α := EReal) (β := EReal) (x0 (ix3 b t k)) (wts x2 x3 (ix2 n k)) := by
  have h : resY x0 x2 x3 (ix3 b t n) = Cert.KernelIdeal.Val.fwd (rowsX x0) (wts x2 x3) (ix2 ⟨b.val * 2048 + t.val, by omega⟩ n) :=
    shapeCast_apply _ _ (ix3 b t n) (ix2 ⟨b.val * 2048 + t.val, by omega⟩ n) (by
      rw [Shape.rowMajor_val_three, Shape.rowMajor_val_two]
      rfl)
  rw [h]
  refine Finset.sum_congr rfl fun k _ => ?_
  show HMul.hMul (α := EReal) (β := EReal) (rowsX x0 (ix2 ⟨b.val * 2048 + t.val, by omega⟩ k)) (wts x2 x3 (ix2 n k)) = _
  rw [rowsX_apply x0 b t k ⟨b.val * 2048 + t.val, by omega⟩ rfl]

/-- The reference's forward product is the kernel program's. -/
theorem y_eq (x0 : Vec Ideal S3x2048x4096 .bf16) (x2 : IVec S8x3670016 8) (x3 : Vec Ideal S8x28672 .f32) :
    val_main_v32 (F := Ideal) x0 x2 x3 = resY x0 x2 x3 := by
  funext i
  obtain ⟨b, t, n, rfl⟩ : ∃ b t n, i = ix3 b t n := ⟨i 0, i 1, i 2, eq_ix3 i⟩
  rw [resY_apply, Cert.KernelIdeal.Val.sum_even_odd 2048 4096 rfl, val_main_v32_apply, val_main_v31_apply, val_main_v28_apply, val_main_v30_apply]
  show HAdd.hAdd (α := EReal) (β := EReal) _ _ = _
  refine congrArg₂ (HAdd.hAdd (α := EReal) (β := EReal)) (Finset.sum_congr rfl fun k _ => ?_) (Finset.sum_congr rfl fun k _ => ?_)
  · have el : lidx_main_v28 (ix3 b t n) k = ix3 b t k := by
      funext a
      match a with
      | ⟨0, _⟩ => rfl
      | ⟨1, _⟩ => rfl
      | ⟨2, _⟩ => rfl
    have er : ridx_main_v28 (ix3 b t n) k = ix2 n k := by
      funext a
      match a with
      | ⟨0, _⟩ => rfl
      | ⟨1, _⟩ => rfl
    rw [el, er, v27_apply, lo_apply]
  · have el : lidx_main_v30 (ix3 b t n) k = ix3 b t k := by
      funext a
      match a with
      | ⟨0, _⟩ => rfl
      | ⟨1, _⟩ => rfl
      | ⟨2, _⟩ => rfl
    have er : ridx_main_v30 (ix3 b t n) k = ix2 n k := by
      funext a
      match a with
      | ⟨0, _⟩ => rfl
      | ⟨1, _⟩ => rfl
    rw [el, er, v29_apply, hi_apply]

/-! ## The input gradient -/

/-- The input gradient at an entry. -/
theorem resDx_apply (x1 : Vec Ideal S3x2048x14336 .bf16) (x2 : IVec S8x3670016 8) (x3 : Vec Ideal S8x28672 .f32)
    (b : Fin 3) (t : Fin 2048) (j : Fin 4096) :
    resDx x1 x2 x3 (ix3 b t j) = ∑ n : Fin 14336, HMul.hMul (α := EReal) (β := EReal) (x1 (ix3 b t n)) (wts x2 x3 (ix2 n j)) := by
  have h : resDx x1 x2 x3 (ix3 b t j) = Cert.KernelIdeal.Val2.prod (rowsG x1) (wts x2 x3) (ix2 ⟨b.val * 2048 + t.val, by omega⟩ j) :=
    shapeCast_apply _ _ (ix3 b t j) (ix2 ⟨b.val * 2048 + t.val, by omega⟩ j) (by
      rw [Shape.rowMajor_val_three, Shape.rowMajor_val_two]
      rfl)
  rw [h]
  refine Finset.sum_congr rfl fun n _ => ?_
  show HMul.hMul (α := EReal) (β := EReal) (rowsG x1 (ix2 ⟨b.val * 2048 + t.val, by omega⟩ n)) (wts x2 x3 (ix2 n j)) = _
  rw [rowsG_apply x1 b t n ⟨b.val * 2048 + t.val, by omega⟩ rfl]

theorem v33_apply (x1 : Vec Ideal S3x2048x14336 .bf16) (x2 : IVec S8x3670016 8) (x3 : Vec Ideal S8x28672 .f32)
    (b : Fin 3) (t k : Fin 2048) :
    val_main_v33 (F := Ideal) x1 x2 x3 (ix3 b t k) = resDx x1 x2 x3 (ix3 b t ⟨2 * k.val, by omega⟩) := by
  rw [resDx_apply, val_main_v33_apply]
  refine Finset.sum_congr rfl fun n _ => ?_
  have el : lidx_main_v33 (ix3 b t k) n = ix3 b t n := by
    funext a
    match a with
    | ⟨0, _⟩ => rfl
    | ⟨1, _⟩ => rfl
    | ⟨2, _⟩ => rfl
  have er : ridx_main_v33 (ix3 b t k) n = ix2 n k := by
    funext a
    match a with
    | ⟨0, _⟩ => rfl
    | ⟨1, _⟩ => rfl
  rw [el, er, lo_apply]

theorem v34_apply (x1 : Vec Ideal S3x2048x14336 .bf16) (x2 : IVec S8x3670016 8) (x3 : Vec Ideal S8x28672 .f32)
    (b : Fin 3) (t k : Fin 2048) :
    val_main_v34 (F := Ideal) x1 x2 x3 (ix3 b t k) = resDx x1 x2 x3 (ix3 b t ⟨2 * k.val + 1, by omega⟩) := by
  rw [resDx_apply, val_main_v34_apply]
  refine Finset.sum_congr rfl fun n _ => ?_
  have el : lidx_main_v34 (ix3 b t k) n = ix3 b t n := by
    funext a
    match a with
    | ⟨0, _⟩ => rfl
    | ⟨1, _⟩ => rfl
    | ⟨2, _⟩ => rfl
  have er : ridx_main_v34 (ix3 b t k) n = ix2 n k := by
    funext a
    match a with
    | ⟨0, _⟩ => rfl
    | ⟨1, _⟩ => rfl
  rw [el, er, hi_apply]

theorem v35_apply (x1 : Vec Ideal S3x2048x14336 .bf16) (x2 : IVec S8x3670016 8) (x3 : Vec Ideal S8x28672 .f32)
    (b : Fin 3) (t k : Fin 2048) (z : Fin 1) :
    val_main_v35 (F := Ideal) x1 x2 x3 (ix4 b t k z) = resDx x1 x2 x3 (ix3 b t ⟨2 * k.val, by omega⟩) := by
  rw [val_main_v35_apply]
  have e : idx_main_v35 (ix4 b t k z) = ix3 b t k := by
    funext a
    match a with
    | ⟨0, _⟩ => rfl
    | ⟨1, _⟩ => rfl
    | ⟨2, _⟩ => rfl
  rw [e, v33_apply]

theorem v36_apply (x1 : Vec Ideal S3x2048x14336 .bf16) (x2 : IVec S8x3670016 8) (x3 : Vec Ideal S8x28672 .f32)
    (b : Fin 3) (t k : Fin 2048) (z : Fin 1) :
    val_main_v36 (F := Ideal) x1 x2 x3 (ix4 b t k z) = resDx x1 x2 x3 (ix3 b t ⟨2 * k.val + 1, by omega⟩) := by
  rw [val_main_v36_apply]
  have e : idx_main_v36 (ix4 b t k z) = ix3 b t k := by
    funext a
    match a with
    | ⟨0, _⟩ => rfl
    | ⟨1, _⟩ => rfl
    | ⟨2, _⟩ => rfl
  rw [e, v34_apply]

/-- The two halves side by side, the last coordinate choosing the half. -/
theorem v37_apply (x1 : Vec Ideal S3x2048x14336 .bf16) (x2 : IVec S8x3670016 8) (x3 : Vec Ideal S8x28672 .f32)
    (b : Fin 3) (t k : Fin 2048) (p : Fin 2) :
    val_main_v37 (F := Ideal) x1 x2 x3 (ix4 b t k p) = resDx x1 x2 x3 (ix3 b t ⟨2 * k.val + p.val, by omega⟩) := by
  unfold val_main_v37
  match p with
  | ⟨0, _⟩ =>
    refine (concatenate_pair_apply_left (3 : Fin S3x2048x2048x2.rank) (val_main_v35 (F := Ideal) x1 x2 x3) (val_main_v36 (F := Ideal) x1 x2 x3) _ _ rfl (ix4 b t k 0) (fun a => ?_)).trans (v35_apply x1 x2 x3 b t k 0)
    match a with
    | ⟨0, _⟩ => rfl
    | ⟨1, _⟩ => rfl
    | ⟨2, _⟩ => rfl
    | ⟨3, _⟩ => rfl
  | ⟨1, _⟩ =>
    refine (concatenate_pair_apply_right (3 : Fin S3x2048x2048x2.rank) (val_main_v35 (F := Ideal) x1 x2 x3) (val_main_v36 (F := Ideal) x1 x2 x3) _ _ rfl rfl (ix4 b t k 0) (fun a ha => ?_) rfl).trans (v36_apply x1 x2 x3 b t k 0)
    match a with
    | ⟨0, _⟩ => rfl
    | ⟨1, _⟩ => rfl
    | ⟨2, _⟩ => rfl
    | ⟨3, _⟩ => exact absurd rfl ha

/-- The reference's input gradient is the kernel program's. -/
theorem dx_eq (x1 : Vec Ideal S3x2048x14336 .bf16) (x2 : IVec S8x3670016 8) (x3 : Vec Ideal S8x28672 .f32) :
    val_main_v39 (F := Ideal) x1 x2 x3 = resDx x1 x2 x3 := by
  funext i
  obtain ⟨b, t, j, rfl⟩ : ∃ b t j, i = ix3 b t j := ⟨i 0, i 1, i 2, eq_ix3 i⟩
  have h1 : val_main_v38 (F := Ideal) x1 x2 x3 (ix3 b t j)
      = val_main_v37 (F := Ideal) x1 x2 x3 (ix4 b t ⟨j.val / 2, by omega⟩ ⟨j.val % 2, by omega⟩) := by
    unfold val_main_v38
    refine shapeCast_apply _ _ _ _ ?_
    rw [Shape.rowMajor_val_four, Shape.rowMajor_val_three]
    show ((b.val * 2048 + t.val) * 2048 + j.val / 2) * 2 + j.val % 2 = (b.val * 2048 + t.val) * 4096 + j.val
    omega
  rw [val_main_v39_apply, h1, v37_apply]
  show resDx x1 x2 x3 _ = _
  refine congrArg (resDx x1 x2 x3) ?_
  funext a
  match a with
  | ⟨0, _⟩ => rfl
  | ⟨1, _⟩ => rfl
  | ⟨2, _⟩ => exact Fin.ext (by show 2 * (j.val / 2) + j.val % 2 = j.val; omega)

end Cert.Same

end
-- ==== Proof.Val.RefGrad.lean ====
/- The reference's last two results, the codes and the scales of the weight gradient, are the kernel program's. The reference
   sums over the batch and the token at once, lays the gradient out in rows of one block each, and packs neighbouring codes. -/
module

public import proofs.«01_k».proof.Proof.Val.RefWeights
public import Idealize.ShloMosaic.Lib.TwoAxisContraction
public import Idealize.ShloMosaic.Lib.Pipeline.ValueKit.Acc

@[expose] public section

set_option maxRecDepth 16384

noncomputable section

namespace Cert.Same

open Idealize.ShloMosaic Idealize.ShloMosaic.TcCoe Idealize.SL.Sem Idealize.ShloMosaic.ValueIdx
open Cert.ReferenceIdeal Cert.ReferenceIdeal.Gen Cert.ReferenceIdeal.Read
open Cert.KernelIdeal.Val (rowsX rowsG resCodes resScales)
open Cert.KernelIdeal.Val3 (grad row amax scale code byte packed codesOf scalesOf)
open scoped BigOperators

/-! ## The weight gradient -/

/-- The gradient's product contracts the batch and the token of both operands. -/
abbrev dotG : DotDims S3x2048x14336 S3x2048x4096 S14336x4096 := dot_S3x2048x14336_S3x2048x4096_S14336x4096_01_01_2_2_n_n

theorem dotG_lhs0 (i : S14336x4096.Idx) (q : dotG.contr.Idx) : (dotG.lhsIdx i q 0).val = (q ⟨0, by decide⟩).val := by
  unfold DotDims.lhsIdx
  rw [dif_neg (show ¬(0 : Fin S3x2048x14336.rank) ∈ dotG.lhsBatch by decide),
    dif_neg (show ¬(0 : Fin S3x2048x14336.rank) ∈ dotG.lhsNonContracting by decide)]
  rfl
theorem dotG_lhs1 (i : S14336x4096.Idx) (q : dotG.contr.Idx) : (dotG.lhsIdx i q 1).val = (q ⟨1, by decide⟩).val := by
  unfold DotDims.lhsIdx
  rw [dif_neg (show ¬(1 : Fin S3x2048x14336.rank) ∈ dotG.lhsBatch by decide),
    dif_neg (show ¬(1 : Fin S3x2048x14336.rank) ∈ dotG.lhsNonContracting by decide)]
  rfl
theorem dotG_lhs2 (i : S14336x4096.Idx) (q : dotG.contr.Idx) : (dotG.lhsIdx i q 2).val = (i 0).val := by
  unfold DotDims.lhsIdx
  rw [dif_neg (show ¬(2 : Fin S3x2048x14336.rank) ∈ dotG.lhsBatch by decide),
    dif_pos (show (2 : Fin S3x2048x14336.rank) ∈ dotG.lhsNonContracting by decide)]
  rfl
theorem dotG_rhs0 (i : S14336x4096.Idx) (q : dotG.contr.Idx) : (dotG.rhsIdx i q 0).val = (q ⟨0, by decide⟩).val := by
  unfold DotDims.rhsIdx
  rw [dif_neg (show ¬(0 : Fin S3x2048x4096.rank) ∈ dotG.rhsBatch by decide),
    dif_neg (show ¬(0 : Fin S3x2048x4096.rank) ∈ dotG.rhsNonContracting by decide)]
  rfl
theorem dotG_rhs1 (i : S14336x4096.Idx) (q : dotG.contr.Idx) : (dotG.rhsIdx i q 1).val = (q ⟨1, by decide⟩).val := by
  unfold DotDims.rhsIdx
  rw [dif_neg (show ¬(1 : Fin S3x2048x4096.rank) ∈ dotG.rhsBatch by decide),
    dif_neg (show ¬(1 : Fin S3x2048x4096.rank) ∈ dotG.rhsNonContracting by decide)]
  rfl
theorem dotG_rhs2 (i : S14336x4096.Idx) (q : dotG.contr.Idx) : (dotG.rhsIdx i q 2).val = (i 1).val := by
  unfold DotDims.rhsIdx
  rw [dif_neg (show ¬(2 : Fin S3x2048x4096.rank) ∈ dotG.rhsBatch by decide),
    dif_pos (show (2 : Fin S3x2048x4096.rank) ∈ dotG.rhsNonContracting by decide)]
  rfl

/-- A sum over the batch and the token is a sum over the rows. -/
theorem sum_rows (f : Fin 6144 → EReal) :
    ∑ b : Fin 3, ∑ t : Fin 2048, f ⟨b.val * 2048 + t.val, by omega⟩ = ∑ r : Fin 6144, f r := by
  have h := Fin.sum_univ_univ_mul_add 3 2048 (fun n => if hn : n < 6144 then f ⟨n, hn⟩ else 0)
  have h1 : ∀ (b : Fin 3) (t : Fin 2048), (if hn : b.val * 2048 + t.val < 6144 then f ⟨b.val * 2048 + t.val, hn⟩ else 0)
      = f ⟨b.val * 2048 + t.val, by omega⟩ := fun b t => dif_pos (by omega)
  have h2 : ∀ r : Fin (3 * 2048), (if hn : r.val < 6144 then f ⟨r.val, hn⟩ else 0) = f r := fun r => dif_pos r.isLt
  simp only [h1, h2] at h
  exact h

/-- The reference's weight gradient at an entry. -/
theorem v40_apply (x0 : Vec Ideal S3x2048x4096 .bf16) (x1 : Vec Ideal S3x2048x14336 .bf16) (n : Fin 14336) (k : Fin 4096) :
    val_main_v40 (F := Ideal) x0 x1 (ix2 n k) = grad (rowsG x1) (rowsX x0) (ix2 n k) := by
  unfold val_main_v40
  simp only [Host.dotGeneral]
  rw [Ideal.dotGeneral_apply, sum_contr2 dotG 3 2048 rfl rfl rfl]
  show _ = ∑ r : Fin 6144, HMul.hMul (α := EReal) (β := EReal) (rowsG x1 (ix2 r n)) (rowsX x0 (ix2 r k))
  rw [← sum_rows]
  refine Finset.sum_congr rfl fun b _ => Finset.sum_congr rfl fun t _ => ?_
  rw [rowsG_apply x1 b t n ⟨b.val * 2048 + t.val, by omega⟩ rfl, rowsX_apply x0 b t k ⟨b.val * 2048 + t.val, by omega⟩ rfl]
  have h0 := contrEquiv2_symm_val0 dotG 3 2048 rfl rfl rfl (b, t)
  have h1 := contrEquiv2_symm_val1 dotG 3 2048 rfl rfl rfl (b, t)
  have el : dotG.lhsIdx (ix2 n k) ((contrEquiv2 dotG 3 2048 rfl rfl rfl).symm (b, t)) = ix3 b t n := by
    funext a
    match a with
    | ⟨0, _⟩ => exact Fin.ext ((dotG_lhs0 _ _).trans h0)
    | ⟨1, _⟩ => exact Fin.ext ((dotG_lhs1 _ _).trans h1)
    | ⟨2, _⟩ => exact Fin.ext (dotG_lhs2 _ _)
  have er : dotG.rhsIdx (ix2 n k) ((contrEquiv2 dotG 3 2048 rfl rfl rfl).symm (b, t)) = ix3 b t k := by
    funext a
    match a with
    | ⟨0, _⟩ => exact Fin.ext ((dotG_rhs0 _ _).trans h0)
    | ⟨1, _⟩ => exact Fin.ext ((dotG_rhs1 _ _).trans h1)
    | ⟨2, _⟩ => exact Fin.ext (dotG_rhs2 _ _)
  exact congrArg₂ (HMul.hMul (α := EReal) (β := EReal)) (congrArg x1 el) (congrArg x0 er)

/-! ## The blocks, the scales and the codes -/

section
variable (x0 : Vec Ideal S3x2048x4096 .bf16) (x1 : Vec Ideal S3x2048x14336 .bf16) (x4 : Vec Ideal S1 .f32)

/-- Block `r` of the gradient over the divisor, sixteen blocks to a row. -/
abbrev blockOf (r : Fin 229376) : Fin 256 → EReal :=
  row (grad (rowsG x1) (rowsX x0)) (x4 (ix1 0)) ⟨r.val / 16, by omega⟩ ⟨r.val % 16, by omega⟩

theorem v42_apply (i : S14336x4096.Idx) : val_main_v42 (F := Ideal) x4 i = x4 (ix1 0) := by
  rw [val_main_v42_apply]
  unfold val_main_v41
  refine shapeCast_apply x4 _ _ (ix1 0) ?_
  have h : (S_.rowMajor (idx_main_v42 i)).val < S_.numel := (S_.rowMajor (idx_main_v42 i)).isLt
  have h1 : S_.numel = 1 := by decide
  rw [Shape.rowMajor_val_one]
  show 0 = (S_.rowMajor (idx_main_v42 i)).val
  omega

theorem v44_apply (r : Fin 229376) (k : Fin 256) :
    val_main_v44 (F := Ideal) x0 x1 x4 (ix2 r k) = blockOf x0 x1 x4 r k := by
  have e : idx_main_v44 (ix2 r k) = ix2 (⟨r.val / 16, by omega⟩ : Fin 14336) (⟨256 * (r.val % 16) + k.val, by omega⟩ : Fin 4096) := by
    funext a
    match a with
    | ⟨0, _⟩ => exact Fin.ext (by show (r.val * 256 + k.val) / 4096 = r.val / 16; omega)
    | ⟨1, _⟩ => exact Fin.ext (by show (r.val * 256 + k.val) % 4096 = 256 * (r.val % 16) + k.val; omega)
  rw [val_main_v44_apply, e, val_main_v43_apply, v40_apply, v42_apply]
  rfl

theorem v45_apply (r : Fin 229376) (k : Fin 256) :
    val_main_v45 (F := Ideal) x0 x1 x4 (ix2 r k) = FloatOps.absf (F := Ideal) (φ := .f32) (blockOf x0 x1 x4 r k) := by
  rw [val_main_v45_apply, v44_apply]
  rfl

theorem reduces_blocks : S229376x256.Reduces [1] S229376 := by decide

theorem lift_block (r : Fin 229376) (k : Fin 256) : Shape.Reduces.lift reduces_blocks (ix1 r) k = ix2 r k := by
  funext a
  match a with
  | ⟨0, _⟩ => rfl
  | ⟨1, _⟩ => rfl

theorem v46_apply (r : Fin 229376) : val_main_v46 (F := Ideal) x0 x1 x4 (ix1 r) = amax (blockOf x0 x1 x4 r) := by
  unfold val_main_v46
  refine (Host.reduce_eq_fold_single (max : EReal → EReal → EReal) (val_main_v45 (F := Ideal) x0 x1 x4) (val_main_cst (F := Ideal))
    reducesTo_S229376x256_S229376_d1 reduces_blocks h_S_ (ix1 r)).trans ?_
  unfold amax
  refine congrArg (fun f : Fin 256 → EReal => Finset.univ.fold max (FloatOps.ofBits (F := Ideal) .f32 0xFF800000#32) f) ?_
  funext k
  exact (congrArg (val_main_v45 (F := Ideal) x0 x1 x4) (lift_block r k)).trans (v45_apply x0 x1 x4 r k)

theorem v51_apply (r : Fin 229376) : val_main_v51 (F := Ideal) x0 x1 x4 (ix1 r) = scale (blockOf x0 x1 x4 r) := by
  rw [val_main_v51_apply, val_main_v48_apply, val_main_v50_apply, v46_apply, val_main_v47_apply, val_main_v49_apply,
    val_main_call0_v0_apply]
  rfl

theorem v57_apply (r : Fin 229376) (k : Fin 256) : val_main_v57 (F := Ideal) x0 x1 x4 (ix2 r k) = code (blockOf x0 x1 x4 r) k := by
  have e : val_main_v53 (F := Ideal) x0 x1 x4 (ix2 r k) = scale (blockOf x0 x1 x4 r) := by
    rw [val_main_v53_apply, val_main_v52_apply]
    refine Eq.trans (congrArg (val_main_v51 (F := Ideal) x0 x1 x4) ?_) (v51_apply x0 x1 x4 r)
    funext a
    match a with
    | ⟨0, _⟩ => rfl
  rw [val_main_v57_apply, val_main_v56_apply, val_main_call2_v2_apply, val_main_v55_apply, val_main_v54_apply, v44_apply, e,
    val_main_call2_v1_apply, val_main_call2_v4_apply]
  rfl

theorem v59_apply (r : Fin 229376) (k : Fin 256) :
    val_main_v59 (F := Ideal) x0 x1 x4 (ix2 r k) = code (blockOf x0 x1 x4 r) k &&& 15#32 := by
  rw [val_main_v59_apply, v57_apply, val_main_v58_apply]
  rfl

theorem v62_apply (i : Fin 29360128) :
    val_main_v62 (F := Ideal) x0 x1 x4 (ix1 i)
      = code (blockOf x0 x1 x4 ⟨i.val / 128, by omega⟩) ⟨2 * (i.val % 128), by omega⟩ &&& 15#32 := by
  rw [val_main_v62_apply, val_main_v61_apply, val_main_v60_apply, ← v59_apply]
  refine congrArg (val_main_v59 (F := Ideal) x0 x1 x4) ?_
  funext a
  match a with
  | ⟨0, _⟩ => exact Fin.ext (by show (i.val / 1 * 2 + 0) / 256 = i.val / 128; omega)
  | ⟨1, _⟩ => exact Fin.ext (by show (i.val / 1 * 2 + 0) % 256 = 2 * (i.val % 128); omega)

theorem v64_apply (i : Fin 29360128) :
    val_main_v64 (F := Ideal) x0 x1 x4 (ix1 i)
      = code (blockOf x0 x1 x4 ⟨i.val / 128, by omega⟩) ⟨2 * (i.val % 128) + 1, by omega⟩ &&& 15#32 := by
  rw [val_main_v64_apply, val_main_v63_apply, val_main_v60_apply, ← v59_apply]
  refine congrArg (val_main_v59 (F := Ideal) x0 x1 x4) ?_
  funext a
  match a with
  | ⟨0, _⟩ => exact Fin.ext (by show (i.val / 1 * 2 + (1 + 0)) / 256 = i.val / 128; omega)
  | ⟨1, _⟩ => exact Fin.ext (by show (i.val / 1 * 2 + (1 + 0)) % 256 = 2 * (i.val % 128) + 1; omega)

/-- A shift by four on the host. -/
theorem host_shl4 (v : BitVec 32) : IntOp.shli .host v 4#32 = v <<< 4 := by
  unfold IntOp.shli
  rw [if_pos (by decide)]
  rfl

theorem v68_apply (i : Fin 29360128) :
    val_main_v68 (F := Ideal) x0 x1 x4 (ix1 i) = packed (blockOf x0 x1 x4 ⟨i.val / 128, by omega⟩) ⟨i.val % 128, by omega⟩ := by
  rw [val_main_v68_apply, val_main_v67_apply, val_main_v66_apply, v62_apply, v64_apply, val_main_v65_apply, val_main_c_11_apply,
    host_shl4]
  rfl

/-! ## The results -/

/-- The codes of the block that holds position `f`, read at that position. -/
theorem codes_at (f : ℕ) (hf : f < 29360128) :
    packed (blockOf x0 x1 x4 ⟨f / 128, by omega⟩) ⟨f % 128, by omega⟩
      = codesOf (grad (rowsG x1) (rowsX x0)) (x4 (ix1 0))
          (ix2 (⟨f / 2048, by omega⟩ : Fin 14336) (⟨f % 2048, by omega⟩ : Fin 2048)) := by
  have e1 : (⟨f / 128 / 16, by omega⟩ : Fin 14336) = ⟨f / 2048, by omega⟩ := Fin.ext (by show f / 128 / 16 = f / 2048; omega)
  have e2 : (⟨f / 128 % 16, by omega⟩ : Fin 16) = ⟨f % 2048 / 128, by omega⟩ :=
    Fin.ext (by show f / 128 % 16 = f % 2048 / 128; omega)
  have e3 : (⟨f % 128, by omega⟩ : Fin 128) = ⟨f % 2048 % 128, by omega⟩ := Fin.ext (by show f % 128 = f % 2048 % 128; omega)
  unfold blockOf
  rw [e1, e2, e3]
  rfl

/-- The scale of block `f`, where the kernel keeps it. -/
theorem scales_at (f : ℕ) (hf : f < 229376) :
    scale (blockOf x0 x1 x4 ⟨f, hf⟩)
      = scalesOf (grad (rowsG x1) (rowsX x0)) (x4 (ix1 0))
          (ix3 (⟨f / 4 % 4, by omega⟩ : Fin 4) (⟨f / 16, by omega⟩ : Fin 14336) (⟨f % 4, by omega⟩ : Fin 4)) := by
  have e2 : (⟨f % 16, by omega⟩ : Fin 16) = ⟨4 * (f / 4 % 4) + f % 4, by omega⟩ :=
    Fin.ext (by show f % 16 = 4 * (f / 4 % 4) + f % 4; omega)
  unfold blockOf
  rw [e2]
  rfl

/-- The codes before the shards are put beside one another. -/
theorem v69_eq : ∀ h, val_main_v69 (F := Ideal) x0 x1 x4
    = shapeCast S2x4x3670016 (codesOf (grad (rowsG x1) (rowsX x0)) (x4 (ix1 0))) h := by
  intro h
  funext i
  obtain ⟨a, b, d, rfl⟩ : ∃ a b d, i = ix3 a b d := ⟨i 0, i 1, i 2, eq_ix3 i⟩
  have hN : (a.val * 4 + b.val) * 3670016 + d.val < 29360128 := by have := a.isLt; have := b.isLt; have := d.isLt; omega
  have e1 : val_main_v69 (F := Ideal) x0 x1 x4 (ix3 a b d)
      = val_main_v68 (F := Ideal) x0 x1 x4 (ix1 ⟨(a.val * 4 + b.val) * 3670016 + d.val, hN⟩) := by
    unfold val_main_v69
    refine shapeCast_apply _ _ _ _ ?_
    rw [Shape.rowMajor_val_one, Shape.rowMajor_val_three]
    rfl
  have e2 := shapeCast_apply (codesOf (grad (rowsG x1) (rowsX x0)) (x4 (ix1 0))) h (ix3 a b d)
    (ix2 (⟨((a.val * 4 + b.val) * 3670016 + d.val) / 2048, by omega⟩ : Fin 14336)
      (⟨((a.val * 4 + b.val) * 3670016 + d.val) % 2048, by omega⟩ : Fin 2048)) (by
        rw [Shape.rowMajor_val_two, Shape.rowMajor_val_three]
        show ((a.val * 4 + b.val) * 3670016 + d.val) / 2048 * 2048 + ((a.val * 4 + b.val) * 3670016 + d.val) % 2048
          = (a.val * 4 + b.val) * 3670016 + d.val
        omega)
  rw [e1, v68_apply, e2]
  exact codes_at x0 x1 x4 _ hN

/-- The reference's codes are the kernel program's. -/
theorem codes_eq : val_main_v71 (F := Ideal) x0 x1 x4 = resCodes x0 x1 x4 := by
  unfold val_main_v71 val_main_v70 resCodes
  rw [v69_eq x0 x1 x4 Cert.KernelIdeal.Facts₀.shapeCasts_S14336x2048_S2x4x3670016]

/-- The scales before the shards are put beside one another: the kernel's leading index and its last are together the block
    in a row. -/
theorem v72_eq : ∀ h h', val_main_v72 (F := Ideal) x0 x1 x4
    = shapeCast S2x4x28672 (transpose Cert.KernelIdeal.S14336x4x4 [1, 0, 2]
        (scalesOf (grad (rowsG x1) (rowsX x0)) (x4 (ix1 0))) h) h' := by
  intro h h'
  funext i
  obtain ⟨a, b, d, rfl⟩ : ∃ a b d, i = ix3 a b d := ⟨i 0, i 1, i 2, eq_ix3 i⟩
  have hN : (a.val * 4 + b.val) * 28672 + d.val < 229376 := by have := a.isLt; have := b.isLt; have := d.isLt; omega
  have e1 : val_main_v72 (F := Ideal) x0 x1 x4 (ix3 a b d)
      = val_main_v51 (F := Ideal) x0 x1 x4 (ix1 ⟨(a.val * 4 + b.val) * 28672 + d.val, hN⟩) := by
    unfold val_main_v72
    refine shapeCast_apply _ _ _ _ ?_
    rw [Shape.rowMajor_val_one, Shape.rowMajor_val_three]
    rfl
  have e2 := shapeCast_apply (transpose Cert.KernelIdeal.S14336x4x4 [1, 0, 2] (scalesOf (grad (rowsG x1) (rowsX x0)) (x4 (ix1 0))) h)
    h' (ix3 a b d)
    (ix3 (⟨((a.val * 4 + b.val) * 28672 + d.val) / 16, by omega⟩ : Fin 14336)
      (⟨((a.val * 4 + b.val) * 28672 + d.val) / 4 % 4, by omega⟩ : Fin 4)
      (⟨((a.val * 4 + b.val) * 28672 + d.val) % 4, by omega⟩ : Fin 4)) (by
        rw [Shape.rowMajor_val_three, Shape.rowMajor_val_three]
        show (((a.val * 4 + b.val) * 28672 + d.val) / 16 * 4 + ((a.val * 4 + b.val) * 28672 + d.val) / 4 % 4) * 4
            + ((a.val * 4 + b.val) * 28672 + d.val) % 4 = (a.val * 4 + b.val) * 28672 + d.val
        omega)
  rw [e1, v51_apply, e2, scales_at x0 x1 x4 _ hN]
  exact (transpose_apply [1, 0, 2] _ h _ _ (fun b => match b with
      | ⟨0, _⟩ => rfl
      | ⟨1, _⟩ => rfl
      | ⟨2, _⟩ => rfl)).symm

/-- The reference's scales are the kernel program's. -/
theorem scales_eq : val_main_v74 (F := Ideal) x0 x1 x4 = resScales x0 x1 x4 := by
  unfold val_main_v74 val_main_v73 resScales
  rw [v72_eq x0 x1 x4 Cert.KernelIdeal.Facts₀.transposes_S4x14336x4_S14336x4x4_1_0_2
    Cert.KernelIdeal.Facts₀.shapeCasts_S14336x4x4_S2x4x28672]

end

end Cert.Same

end
-- ==== Proof.Val.Agree.lean ====
/- The two programs side by side: each ends with the results stated in `Results`, read off its own arguments. -/
module

public import proofs.«01_k».proof.Proof.Frame.Run
public import proofs.«01_k».proof.Proof.Val.Hosts
public import proofs.«01_k».proof.Proof.Val.RefWeights
public import proofs.«01_k».proof.Proof.Val.RefGrad

@[expose] public section

noncomputable section

namespace Cert.Same

open Idealize.ShloMosaic Idealize.ShloMosaic.TcCoe Idealize.SL.Sem
open Cert.KernelIdeal.Val (resY resDx resCodes resScales)

section
open Cert.KernelIdeal Cert.KernelIdeal.Gen
open Cert.KernelIdeal.Val (argX argG argC argS argW)

/-- The kernel program ends with the four results of its arguments, and its arguments unchanged. -/
theorem kernel_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = resY (argX m c) (argC m c) (argS m c)
      ∧ r.2.mem ((c.tc : Thread nD τ).loc main_v8) = resDx (argG m c) (argC m c) (argS m c)
      ∧ r.2.mem ((c.tc : Thread nD τ).loc main_v12) = resCodes (argX m c) (argG m c) (argW m c)
      ∧ r.2.mem ((c.tc : Thread nD τ).loc main_v16) = resScales (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h.1 c _ (mem_uc main_v6 (by decide))).trans (Val.v6_end m ρ c),
       (h.1 c _ (mem_uc main_v8 (by decide))).trans (Val.v8_end m ρ c),
       (h.1 c _ (mem_uc main_v12 (by decide))).trans (Val.v12_end m ρ c),
       (h.1 c _ (mem_uc main_v16 (by decide))).trans (Val.v16_end m ρ c),
       (h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c)⟩) (run m ρ)

end

section
open Cert.ReferenceIdeal Cert.ReferenceIdeal.Gen Cert.ReferenceIdeal.Read

/-- The reference ends with the same four functions of its own arguments, and its arguments unchanged. -/
theorem reference_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v32)
        = resY (m ((c.tc : Thread nD τ).loc main_arg0)) (m ((c.tc : Thread nD τ).loc main_arg2)) (m ((c.tc : Thread nD τ).loc main_arg3))
      ∧ r.2.mem ((c.tc : Thread nD τ).loc main_v39)
        = resDx (m ((c.tc : Thread nD τ).loc main_arg1)) (m ((c.tc : Thread nD τ).loc main_arg2)) (m ((c.tc : Thread nD τ).loc main_arg3))
      ∧ r.2.mem ((c.tc : Thread nD τ).loc main_v71)
        = resCodes (m ((c.tc : Thread nD τ).loc main_arg0)) (m ((c.tc : Thread nD τ).loc main_arg1)) (m ((c.tc : Thread nD τ).loc main_arg4))
      ∧ r.2.mem ((c.tc : Thread nD τ).loc main_v74)
        = resScales (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨hy, hdx, hcodes, hscales, hargs⟩ := h c
    exact ⟨hy.trans ((val_main_v32_eq (F := Ideal) _ _ _).trans (y_eq _ _ _)),
      hdx.trans ((val_main_v39_eq (F := Ideal) _ _ _).trans (dx_eq _ _ _)),
      hcodes.trans ((val_main_v71_eq (F := Ideal) m c).trans (codes_eq _ _ _)),
      hscales.trans ((val_main_v74_eq (F := Ideal) _ _ _).trans (scales_eq _ _ _)), hargs⟩) (Value.run (F := Ideal) m ρ)

end

end Cert.Same

end
-- ==== Proof.lean ====
/- The claims together: the frames of the three programs, and the equality of the kernel program's results with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame.Run
public import proofs.«01_k».proof.Proof.KernelFrame
public import proofs.«01_k».proof.Proof.Val.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments and every counter as they were. -/
theorem frame_Reference : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- From the same arguments the two programs end with the same results. -/
theorem algebraic : Cert.algebraic_KernelIdeal_ReferenceIdeal := by
  intro m g m' g' _ hin
  refine ⟨_, _, _, _, Cert.Same.kernel_results m g, ?_⟩
  refine (θ_run Cert.ReferenceIdeal.defs _ _).mono (fun r h c => ?_) (Cert.Same.reference_results m' g')
  obtain ⟨hy, hdx, hcodes, hscales, hargs⟩ := h c
  obtain ⟨e0, e1, e2, e3, e4⟩ := hin c
  rw [e0, e2, e3] at hy
  rw [e1, e2, e3] at hdx
  rw [e0, e1, e4] at hcodes hscales
  exact ⟨hy, hdx, hcodes, hscales, hargs⟩

theorem claim : Cert.Claim := ⟨Cert.Kernel.Gen.facts, Cert.KernelIdeal.Gen.facts, Cert.ReferenceIdeal.Gen.facts,
  frame_Kernel, fun m g _ => Cert.KernelIdeal.Gen.frame (F := Ideal) m g, frame_Reference, trivial, algebraic⟩

end Cert.Proof

end
